-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_w_finite [hPre_conv_w_finite : Cert.Pre_conv_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_conv_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_w_finite [hPre_conv_w_finite : Cert.Pre_conv_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_conv_w_finite [hKernelIdeal : Cert.KernelIdeal.Facts] [hPre_conv_w_finite : Cert.Pre_conv_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_conv_w_finite [hReferenceIdeal : Cert.ReferenceIdeal.Facts] [hPre_conv_w_finite : Cert.Pre_conv_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_conv_w_finite [hKernelIdeal : Cert.KernelIdeal.Facts] [hReferenceIdeal : Cert.ReferenceIdeal.Facts] [hPre_conv_w_finite : Cert.Pre_conv_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_conv_w_finite : Cert.Pre_conv_w_finite.Facts),
    quiescent_Kernel (hKernel := hKernel)
    ∧ quiescent_KernelIdeal (hKernelIdeal := hKernelIdeal)
    ∧ quiescent_KernelIdeal_pre_conv_w_finite (hKernelIdeal := hKernelIdeal) (hPre_conv_w_finite := hPre_conv_w_finite)
    ∧ quiescent_ReferenceIdeal (hReferenceIdeal := hReferenceIdeal)
    ∧ quiescent_ReferenceIdeal_pre_conv_w_finite (hReferenceIdeal := hReferenceIdeal) (hPre_conv_w_finite := hPre_conv_w_finite)
    ∧ preserves_Kernel_KernelIdeal
    ∧ algebraic_KernelIdeal_ReferenceIdeal_pre_conv_w_finite (hKernelIdeal := hKernelIdeal) (hReferenceIdeal := hReferenceIdeal) (hPre_conv_w_finite := hPre_conv_w_finite)
-- ==== Pre_conv_w_finite.lean ====
abbrev S4x128x30x40 : Shape := ⟨4, ![4, 128, 30, 40]⟩
abbrev S64x128 : Shape := ⟨2, ![64, 128]⟩
abbrev S_ : Shape := ⟨0, ![]⟩

class Facts : Prop where
  bcast_S_S64x128 : S_.BroadcastsInDim S64x128 (![] : Fin 0 → Fin S64x128.rank)

variable [Facts]

def fn {F : FTy → Type} [FloatOps F] (main_arg0 : FVec F S4x128x30x40 .f32) (main_arg1 : FVec F S64x128 .f32) (main_arg2 : FVec F S64x128 .f32) : IVec S64x128 1 :=
  let main_v0 : FVec F S64x128 .f32 := Host.absf main_arg1
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  main_v2
-- ==== Kernel.lean ====
abbrev S4x128x30x40 : Shape := ⟨4, ![4, 128, 30, 40]⟩
abbrev S64x128 : Shape := ⟨2, ![64, 128]⟩
abbrev S4x128x1200 : Shape := ⟨3, ![4, 128, 1200]⟩
abbrev S16x4x128 : Shape := ⟨3, ![16, 4, 128]⟩
abbrev S4x1x8192 : Shape := ⟨3, ![4, 1, 8192]⟩
abbrev S4x8192x999 : Shape := ⟨3, ![4, 8192, 999]⟩
abbrev S1x128x1200 : Shape := ⟨3, ![1, 128, 1200]⟩
abbrev S1x4x128 : Shape := ⟨3, ![1, 4, 128]⟩
abbrev S1x1x8192 : Shape := ⟨3, ![1, 1, 8192]⟩
abbrev S1x512x999 : Shape := ⟨3, ![1, 512, 999]⟩
abbrev S128x1200 : Shape := ⟨2, ![128, 1200]⟩
abbrev S16x4x1200 : Shape := ⟨3, ![16, 4, 1200]⟩
abbrev S16x4x1077 : Shape := ⟨3, ![16, 4, 1077]⟩
abbrev S16x512x1077 : Shape := ⟨3, ![16, 512, 1077]⟩
abbrev S1x1077 : Shape := ⟨2, ![1, 1077]⟩
abbrev S1200 : Shape := ⟨1, ![1200]⟩
abbrev S1x1200 : Shape := ⟨2, ![1, 1200]⟩
abbrev S64x1200 : Shape := ⟨2, ![64, 1200]⟩
abbrev S64x1199 : Shape := ⟨2, ![64, 1199]⟩
abbrev S64x1197 : Shape := ⟨2, ![64, 1197]⟩
abbrev S64x1157 : Shape := ⟨2, ![64, 1157]⟩
abbrev S64x1077 : Shape := ⟨2, ![64, 1077]⟩
abbrev S64 : Shape := ⟨1, ![64]⟩
abbrev S64x1 : Shape := ⟨2, ![64, 1]⟩
abbrev S1x64x128 : Shape := ⟨3, ![1, 64, 128]⟩
abbrev S1 : Shape := ⟨1, ![1]⟩
abbrev S1x1x1 : Shape := ⟨3, ![1, 1, 1]⟩
abbrev S1x4x1200 : Shape := ⟨3, ![1, 4, 1200]⟩
abbrev S4x1200 : Shape := ⟨2, ![4, 1200]⟩
abbrev S4x1x1200 : Shape := ⟨3, ![4, 1, 1200]⟩
abbrev S512x1200 : Shape := ⟨2, ![512, 1200]⟩
abbrev S512x1199 : Shape := ⟨2, ![512, 1199]⟩
abbrev S512x1197 : Shape := ⟨2, ![512, 1197]⟩
abbrev S512x1157 : Shape := ⟨2, ![512, 1157]⟩
abbrev S512x1077 : Shape := ⟨2, ![512, 1077]⟩
abbrev S4x128x1077 : Shape := ⟨3, ![4, 128, 1077]⟩
abbrev S4x128 : Shape := ⟨2, ![4, 128]⟩
abbrev S1x4x1077 : Shape := ⟨3, ![1, 4, 1077]⟩
abbrev S4x1077 : Shape := ⟨2, ![4, 1077]⟩
abbrev S4x128x1 : Shape := ⟨3, ![4, 128, 1]⟩
abbrev S4x1x1077 : Shape := ⟨3, ![4, 1, 1077]⟩
abbrev S1x512x1077 : Shape := ⟨3, ![1, 512, 1077]⟩
abbrev S1077 : Shape := ⟨1, ![1077]⟩
abbrev S512x3 : Shape := ⟨2, ![512, 3]⟩
abbrev S512x1080 : Shape := ⟨2, ![512, 1080]⟩
abbrev S512x27x40 : Shape := ⟨3, ![512, 27, 40]⟩
abbrev S512x27x37 : Shape := ⟨3, ![512, 27, 37]⟩
abbrev S512x999 : Shape := ⟨2, ![512, 999]⟩

abbrev nBuf : Space → Nat
  | .hbm => 7
  | .vmem => 15
  | .smem => 0
  | _ => 0

abbrev bufTy : (tb : Table) → Fin (tcTables nBuf tb) → BufTy
  | .hbm, ⟨0, _⟩ => ⟨S4x128x30x40, .f32⟩
  | .hbm, ⟨1, _⟩ => ⟨S64x128, .f32⟩
  | .hbm, ⟨2, _⟩ => ⟨S64x128, .f32⟩
  | .hbm, ⟨3, _⟩ => ⟨S4x128x1200, .f32⟩
  | .hbm, ⟨4, _⟩ => ⟨S16x4x128, .f32⟩
  | .hbm, ⟨5, _⟩ => ⟨S4x1x8192, .f32⟩
  | .hbm, ⟨6, _⟩ => ⟨S4x8192x999, .f32⟩
  | .local _ .vmem, ⟨0, _⟩ => ⟨S1x128x1200, .f32⟩
  | .local _ .vmem, ⟨1, _⟩ => ⟨S1x128x1200, .f32⟩
  | .local _ .vmem, ⟨2, _⟩ => ⟨S64x128, .f32⟩
  | .local _ .vmem, ⟨3, _⟩ => ⟨S64x128, .f32⟩
  | .local _ .vmem, ⟨4, _⟩ => ⟨S1x4x128, .f32⟩
  | .local _ .vmem, ⟨5, _⟩ => ⟨S1x4x128, .f32⟩
  | .local _ .vmem, ⟨6, _⟩ => ⟨S1x1x8192, .f32⟩
  | .local _ .vmem, ⟨7, _⟩ => ⟨S1x1x8192, .f32⟩
  | .local _ .vmem, ⟨8, _⟩ => ⟨S1x512x999, .f32⟩
  | .local _ .vmem, ⟨9, _⟩ => ⟨S1x512x999, .f32⟩
  | .local _ .vmem, ⟨10, _⟩ => ⟨S128x1200, .f32⟩
  | .local _ .vmem, ⟨11, _⟩ => ⟨S16x4x1200, .f32⟩
  | .local _ .vmem, ⟨12, _⟩ => ⟨S16x4x1077, .f32⟩
  | .local _ .vmem, ⟨13, _⟩ => ⟨S16x512x1077, .f32⟩
  | .local _ .vmem, ⟨14, _⟩ => ⟨S1x1077, .f32⟩
  | _, _ => ⟨S4x128x30x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off2 (i : grid0.Coords) : Fin 3 → Nat :=
  let arg1 : BitVec 32 := BitVec.ofNat 32 (i 1).val
  let v34 : Index := Scalar.indexCast arg1
  let c0_10 : Index := 0#32
  let c0_11 : Index := 0#32
  ![v34.toNat, 0, 0]
def k0_off3 (i : grid0.Coords) : Fin 3 → Nat :=
  let arg1 : BitVec 32 := BitVec.ofNat 32 (i 1).val
  let v54 : Index := Scalar.indexCast arg1
  let c0_14 : Index := 0#32
  let c0_15 : Index := 0#32
  ![v54.toNat, 0, 0]
def k0_cond3 (i : grid0.Coords) : BitVec 1 :=
  let arg1 : BitVec 32 := BitVec.ofNat 32 (i 1).val
  let c16_i32_2 : BitVec 32 := 16#32
  let v6 : BitVec 1 := Scalar.cmpi .sge arg1 c16_i32_2
  let v7 : BitVec 32 := Scalar.extui v6
  let c0_i32_3 : BitVec 32 := 0#32
  let v8 : BitVec 1 := Scalar.cmpi .ne v7 c0_i32_3
  v8

def k0_off4 (i : grid0.Coords) : Fin 3 → Nat :=
  let arg1 : BitVec 32 := BitVec.ofNat 32 (i 1).val
  let c16_i32_4 : BitVec 32 := 16#32
  let v9 : BitVec 32 := Scalar.subi arg1 c16_i32_4
  let v16 : Index := Scalar.indexCast v9
  let c0_7 : Index := 0#32
  let c0_8 : Index := 0#32
  ![v16.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x128x1200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x999 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x128x30x40 : Shape := ⟨4, ![4, 128, 30, 40]⟩
abbrev S64x128 : Shape := ⟨2, ![64, 128]⟩
abbrev S_ : Shape := ⟨0, ![]⟩
abbrev S4x30x40 : Shape := ⟨3, ![4, 30, 40]⟩
abbrev S4x1x30x40 : Shape := ⟨4, ![4, 1, 30, 40]⟩
abbrev S4x30x40x64 : Shape := ⟨4, ![4, 30, 40, 64]⟩
abbrev S4x64x30x40 : Shape := ⟨4, ![4, 64, 30, 40]⟩
abbrev S4x1x128x30x40 : Shape := ⟨5, ![4, 1, 128, 30, 40]⟩
abbrev S1x64x128x1x1 : Shape := ⟨5, ![1, 64, 128, 1, 1]⟩
abbrev S4x64x128x30x40 : Shape := ⟨5, ![4, 64, 128, 30, 40]⟩
abbrev S4x64x1x30x40 : Shape := ⟨5, ![4, 64, 1, 30, 40]⟩
abbrev S4x64x128 : Shape := ⟨3, ![4, 64, 128]⟩
abbrev S4x64 : Shape := ⟨2, ![4, 64]⟩
abbrev S4x64x1 : Shape := ⟨3, ![4, 64, 1]⟩
abbrev S4x8192 : Shape := ⟨2, ![4, 8192]⟩
abbrev S4 : Shape := ⟨1, ![4]⟩
abbrev S4x1 : Shape := ⟨2, ![4, 1]⟩
abbrev S4x8192x30x40 : Shape := ⟨4, ![4, 8192, 30, 40]⟩
abbrev S4x8192x31x41 : Shape := ⟨4, ![4, 8192, 31, 41]⟩
abbrev S4x8192x27x37 : Shape := ⟨4, ![4, 8192, 27, 37]⟩
abbrev S4x64x128x999 : Shape := ⟨4, ![4, 64, 128, 999]⟩
abbrev S4x64x999 : Shape := ⟨3, ![4, 64, 999]⟩
abbrev S4x64x1x999 : Shape := ⟨4, ![4, 64, 1, 999]⟩
abbrev S4x8192x999 : Shape := ⟨3, ![4, 8192, 999]⟩
abbrev S4x999 : Shape := ⟨2, ![4, 999]⟩
abbrev S4x1x999 : Shape := ⟨3, ![4, 1, 999]⟩
abbrev S4x1x8192 : Shape := ⟨3, ![4, 1, 8192]⟩

abbrev nBuf : Space → Nat
  | .hbm => 103
  | .vmem => 0
  | .smem => 0
  | _ => 0

abbrev bufTy : (tb : Table) → Fin (tcTables nBuf tb) → BufTy
  | .hbm, ⟨0, _⟩ => ⟨S4x128x30x40, .f32⟩
  | .hbm, ⟨1, _⟩ => ⟨S64x128, .f32⟩
  | .hbm, ⟨2, _⟩ => ⟨S64x128, .f32⟩
  | .hbm, ⟨3, _⟩ => ⟨S4x128x30x40, .f32⟩
  | .hbm, ⟨4, _⟩ => ⟨S_, .f32⟩
  | .hbm, ⟨5, _⟩ => ⟨S4x30x40, .f32⟩
  | .hbm, ⟨6, _⟩ => ⟨S4x1x30x40, .f32⟩
  | .hbm, ⟨7, _⟩ => ⟨S4x1x30x40, .f32⟩
  | .hbm, ⟨8, _⟩ => ⟨S_, .f32⟩
  | .hbm, ⟨9, _⟩ => ⟨S4x1x30x40, .f32⟩
  | .hbm, ⟨10, _⟩ => ⟨S4x1x30x40, .f32⟩
  | .hbm, ⟨11, _⟩ => ⟨S4x128x30x40, .f32⟩
  | .hbm, ⟨12, _⟩ => ⟨S4x128x30x40, .f32⟩
  | .hbm, ⟨13, _⟩ => ⟨S4x30x40x64, .f32⟩
  | .hbm, ⟨14, _⟩ => ⟨S4x64x30x40, .f32⟩
  | .hbm, ⟨15, _⟩ => ⟨S_, .f32⟩
  | .hbm, ⟨16, _⟩ => ⟨S4x30x40, .f32⟩
  | .hbm, ⟨17, _⟩ => ⟨S_, .f32⟩
  | .hbm, ⟨18, _⟩ => ⟨S4x30x40, .f32⟩
  | .hbm, ⟨19, _⟩ => ⟨S4x30x40, .f32⟩
  | .hbm, ⟨20, _⟩ => ⟨S4x1x30x40, .f32⟩
  | .hbm, ⟨21, _⟩ => ⟨S4x64x30x40, .f32⟩
  | .hbm, ⟨22, _⟩ => ⟨S4x64x30x40, .f32⟩
  | .hbm, ⟨23, _⟩ => ⟨S4x64x30x40, .f32⟩
  | .hbm, ⟨24, _⟩ => ⟨S_, .f32⟩
  | .hbm, ⟨25, _⟩ => ⟨S4x30x40, .f32⟩
  | .hbm, ⟨26, _⟩ => ⟨S4x1x30x40, .f32⟩
  | .hbm, ⟨27, _⟩ => ⟨S4x64x30x40, .f32⟩
  | .hbm, ⟨28, _⟩ => ⟨S4x64x30x40, .f32⟩
  | .hbm, ⟨29, _⟩ => ⟨S4x1x128x30x40, .f32⟩
  | .hbm, ⟨30, _⟩ => ⟨S1x64x128x1x1, .f32⟩
  | .hbm, ⟨31, _⟩ => ⟨S4x64x128x30x40, .f32⟩
  | .hbm, ⟨32, _⟩ => ⟨S4x64x128x30x40, .f32⟩
  | .hbm, ⟨33, _⟩ => ⟨S4x64x128x30x40, .f32⟩
  | .hbm, ⟨34, _⟩ => ⟨S4x64x1x30x40, .f32⟩
  | .hbm, ⟨35, _⟩ => ⟨S4x64x128x30x40, .f32⟩
  | .hbm, ⟨36, _⟩ => ⟨S4x64x128x30x40, .f32⟩
  | .hbm, ⟨37, _⟩ => ⟨S_, .f32⟩
  | .hbm, ⟨38, _⟩ => ⟨S4x64x128, .f32⟩
  | .hbm, ⟨39, _⟩ => ⟨S4x64x128, .f32⟩
  | .hbm, ⟨40, _⟩ => ⟨S_, .f32⟩
  | .hbm, ⟨41, _⟩ => ⟨S4x64, .f32⟩
  | .hbm, ⟨42, _⟩ => ⟨S4x64x1, .f32⟩
  | .hbm, ⟨43, _⟩ => ⟨S4x64x1, .f32⟩
  | .hbm, ⟨44, _⟩ => ⟨S_, .f32⟩
  | .hbm, ⟨45, _⟩ => ⟨S4x64x1, .f32⟩
  | .hbm, ⟨46, _⟩ => ⟨S4x64x1, .f32⟩
  | .hbm, ⟨47, _⟩ => ⟨S4x64x128, .f32⟩
  | .hbm, ⟨48, _⟩ => ⟨S4x64x128, .f32⟩
  | .hbm, ⟨49, _⟩ => ⟨S4x8192, .f32⟩
  | .hbm, ⟨50, _⟩ => ⟨S4x8192, .f32⟩
  | .hbm, ⟨51, _⟩ => ⟨S_, .f32⟩
  | .hbm, ⟨52, _⟩ => ⟨S4, .f32⟩
  | .hbm, ⟨53, _⟩ => ⟨S4x1, .f32⟩
  | .hbm, ⟨54, _⟩ => ⟨S4x1, .f32⟩
  | .hbm, ⟨55, _⟩ => ⟨S_, .f32⟩
  | .hbm, ⟨56, _⟩ => ⟨S4x1, .f32⟩
  | .hbm, ⟨57, _⟩ => ⟨S4x1, .f32⟩
  | .hbm, ⟨58, _⟩ => ⟨S4x8192, .f32⟩
  | .hbm, ⟨59, _⟩ => ⟨S4x8192, .f32⟩
  | .hbm, ⟨60, _⟩ => ⟨S4x8192x30x40, .f32⟩
  | .hbm, ⟨61, _⟩ => ⟨S_, .f32⟩
  | .hbm, ⟨62, _⟩ => ⟨S_, .f32⟩
  | .hbm, ⟨63, _⟩ => ⟨S4x8192x30x40, .f32⟩
  | .hbm, ⟨64, _⟩ => ⟨S_, .f32⟩
  | .hbm, ⟨65, _⟩ => ⟨S_, .f32⟩
  | .hbm, ⟨66, _⟩ => ⟨S4x8192x30x40, .f32⟩
  | .hbm, ⟨67, _⟩ => ⟨S_, .i32⟩
  | .hbm, ⟨68, _⟩ => ⟨S_, .f32⟩
  | .hbm, ⟨69, _⟩ => ⟨S4x8192x31x41, .f32⟩
  | .hbm, ⟨70, _⟩ => ⟨S4x8192x27x37, .f32⟩
  | .hbm, ⟨71, _⟩ => ⟨S4x8192x27x37, .f32⟩
  | .hbm, ⟨72, _⟩ => ⟨S4x8192x27x37, .f32⟩
  | .hbm, ⟨73, _⟩ => ⟨S4x8192x27x37, .f32⟩
  | .hbm, ⟨74, _⟩ => ⟨S4x8192x27x37, .f32⟩
  | .hbm, ⟨75, _⟩ => ⟨S4x8192x27x37, .f32⟩
  | .hbm, ⟨76, _⟩ => ⟨S4x8192x27x37, .f32⟩
  | .hbm, ⟨77, _⟩ => ⟨S_, .f32⟩
  | .hbm, ⟨78, _⟩ => ⟨S4x8192x27x37, .f32⟩
  | .hbm, ⟨79, _⟩ => ⟨S4x8192x27x37, .f32⟩
  | .hbm, ⟨80, _⟩ => ⟨S4x64x128x999, .f32⟩
  | .hbm, ⟨81, _⟩ => ⟨S4x64x128x999, .f32⟩
  | .hbm, ⟨82, _⟩ => ⟨S_, .f32⟩
  | .hbm, ⟨83, _⟩ => ⟨S4x64x999, .f32⟩
  | .hbm, ⟨84, _⟩ => ⟨S4x64x1x999, .f32⟩
  | .hbm, ⟨85, _⟩ => ⟨S4x64x1x999, .f32⟩
  | .hbm, ⟨86, _⟩ => ⟨S_, .f32⟩
  | .hbm, ⟨87, _⟩ => ⟨S4x64x1x999, .f32⟩
  | .hbm, ⟨88, _⟩ => ⟨S4x64x1x999, .f32⟩
  | .hbm, ⟨89, _⟩ => ⟨S4x64x128x999, .f32⟩
  | .hbm, ⟨90, _⟩ => ⟨S4x64x128x999, .f32⟩
  | .hbm, ⟨91, _⟩ => ⟨S4x8192x999, .f32⟩
  | .hbm, ⟨92, _⟩ => ⟨S4x8192x999, .f32⟩
  | .hbm, ⟨93, _⟩ => ⟨S_, .f32⟩
  | .hbm, ⟨94, _⟩ => ⟨S4x999, .f32⟩
  | .hbm, ⟨95, _⟩ => ⟨S4x1x999, .f32⟩
  | .hbm, ⟨96, _⟩ => ⟨S4x1x999, .f32⟩
  | .hbm, ⟨97, _⟩ => ⟨S_, .f32⟩
  | .hbm, ⟨98, _⟩ => ⟨S4x1x999, .f32⟩
  | .hbm, ⟨99, _⟩ => ⟨S4x1x999, .f32⟩
  | .hbm, ⟨100, _⟩ => ⟨S4x8192x999, .f32⟩
  | .hbm, ⟨101, _⟩ => ⟨S4x8192x999, .f32⟩
  | .hbm, ⟨102, _⟩ => ⟨S4x1x8192, .f32⟩
  | _, _ => ⟨S4x128x30x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_call2_v2 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call3_call0_cst : Ref sig .tc := ⟨.hbm, 61, rfl⟩
abbrev main_call3_call0_v0 : Ref sig .tc := ⟨.hbm, 62, rfl⟩
abbrev main_v39 : Ref sig .tc := ⟨.hbm, 63, rfl⟩
abbrev main_call4_call0_cst : Ref sig .tc := ⟨.hbm, 64, rfl⟩
abbrev main_call4_call0_v0 : Ref sig .tc := ⟨.hbm, 65, rfl⟩
abbrev main_v40 : Ref sig .tc := ⟨.hbm, 66, rfl⟩
abbrev main_c : Ref sig .tc := ⟨.hbm, 67, rfl⟩
abbrev main_call5_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call6_v0 : Ref sig .tc := ⟨.hbm, 81, rfl⟩
abbrev main_call6_cst : Ref sig .tc := ⟨.hbm, 82, rfl⟩
abbrev main_call6_v1 : Ref sig .tc := ⟨.hbm, 83, rfl⟩
abbrev main_call6_v2 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call7_v0 : Ref sig .tc := ⟨.hbm, 92, rfl⟩
abbrev main_call7_cst : Ref sig .tc := ⟨.hbm, 93, rfl⟩
abbrev main_call7_v1 : Ref sig .tc := ⟨.hbm, 94, rfl⟩
abbrev main_call7_v2 : Ref sig .tc := ⟨.hbm, 95, rfl⟩
abbrev main_v58 : Ref sig .tc := ⟨.hbm, 96, rfl⟩
abbrev main_cst_8 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩

abbrev nD : Nat := 1
abbrev τ : Topo := Topo.v7x

variable {F : FTy → Type} [FloatOps F]
-- ==== Proof.Body.lean ====
/-
  The kernel's body on whole staging memrefs, one theorem per case of its three conditionals: what each buffer
  holds afterwards, as a function of what the buffers held before.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Slabs of the three stacked scratches -/

/-- Slab `j` of the soft assignment scratch: the rows of the four clusters of chunk `j`. -/
def slabA (X : Vec F S16x4x1200 .f32) (j : Fin 16) : Vec F S1x4x1200 .f32 :=
  VecWindow.window (s := S16x4x1200) X ![j.val, 0, 0] S1x4x1200.size (by have := j.isLt; intro a; fin_cases a <;> simp [S16x4x1200, S1x4x1200] <;> omega)

/-- Slab `j` of the box sums of the soft assignment. -/
def slabV (X : Vec F S16x4x1077 .f32) (j : Fin 16) : Vec F S1x4x1077 .f32 :=
  VecWindow.window (s := S16x4x1077) X ![j.val, 0, 0] S1x4x1077.size (by have := j.isLt; intro a; fin_cases a <;> simp [S16x4x1077, S1x4x1077] <;> omega)

/-- Slab `j` of the stored local descriptors. -/
def slabY (X : Vec F S16x512x1077 .f32) (j : Fin 16) : Vec F S1x512x1077 .f32 :=
  VecWindow.window (s := S16x512x1077) X ![j.val, 0, 0] S1x512x1077.size (by have := j.isLt; intro a; fin_cases a <;> simp [S16x512x1077, S1x512x1077] <;> omega)

/-- The stored local descriptors with slab `j` replaced. -/
def putY (X : Vec F S16x512x1077 .f32) (j : Fin 16) (w : Vec F S1x512x1077 .f32) : Vec F S16x512x1077 .f32 :=
  VecWindow.put (s := S16x512x1077) X ![j.val, 0, 0] S1x512x1077.size w

/-- The slab just put is read back. -/
theorem slabY_putY_same (X : Vec F S16x512x1077 .f32) (j : Fin 16) (w : Vec F S1x512x1077 .f32) : slabY (putY X j w) j = w :=
  VecWindow.window_put_same (s := S16x512x1077) X _ _ _ w

/-- Putting one slab leaves the others. -/
theorem slabY_putY_ne (X : Vec F S16x512x1077 .f32) (j j' : Fin 16) (w : Vec F S1x512x1077 .f32) (h : j' ≠ j) :
    slabY (putY X j w) j' = slabY X j' :=
  VecWindow.window_put_of_disjoint (s := S16x512x1077) X _ _ _ _ _ w 0 (by
    have : j'.val ≠ j.val := fun e => h (Fin.ext e)
    show j'.val + 1 ≤ j.val ∨ j.val + 1 ≤ j'.val
    omega)

/-- The normalized local descriptors of chunk `j`, from the scratches and the chunk's centroids. -/
def yOf (xs0 : Vec F S128x1200 .f32) (xs1 : Vec F S16x4x1200 .f32) (xs2 : Vec F S16x4x1077 .f32) (x3 : Vec F S1x4x128 .f32) (j : Fin 16) :
    FVec F S512x1077 .f32 :=
  k0_pay11 (slabA xs1 j) xs0 x3 (slabV xs2 j)

/-! ## The conditions and offsets at a grid point -/

/-- The set-up runs at the first step of an image. -/
theorem hcond1 (t : Fin cfg0.N) : k0_cond1 (grid0.coords t) = 1#1 ↔ t.val % 32 = 0 :=
  (by decide +kernel : ∀ t : Fin grid0.N, k0_cond1 (grid0.coords t) = 1#1 ↔ t.val % 32 = 0) t
/-- A chunk is computed at the first sixteen steps of an image. -/
theorem hcond2 (t : Fin cfg0.N) : k0_cond2 (grid0.coords t) = 1#1 ↔ t.val % 32 < 16 :=
  (by decide +kernel : ∀ t : Fin grid0.N, k0_cond2 (grid0.coords t) = 1#1 ↔ t.val % 32 < 16) t
/-- A chunk is scaled at the last sixteen steps of an image. -/
theorem hcond3 (t : Fin cfg0.N) : k0_cond3 (grid0.coords t) = 1#1 ↔ 16 ≤ t.val % 32 :=
  (by decide +kernel : ∀ t : Fin grid0.N, k0_cond3 (grid0.coords t) = 1#1 ↔ 16 ≤ t.val % 32) t

/-! ## The three runs -/

/-- A read of one slab of the assignments is that slab of what the buffer holds. -/
theorem readAt_slabA {κ : Kind} {sp : Space} (v : View sig κ sp S16x4x1200 .f32) (f) (off : Fin 3 → Nat) (j : Fin 16) (h : off = ![j.val, 0, 0]) (inb) :
    View.readAt (Elt F) v (Rect.unit (s := S16x4x1200) off S1x4x1200.size inb).toLoadRect f = slabA (View.read (Elt F) v f) j := by
  subst h; exact View.readAt_unit v f _ rfl _

/-- A read of one slab of the pooled assignments is that slab of what the buffer holds. -/
theorem readAt_slabV {κ : Kind} {sp : Space} (v : View sig κ sp S16x4x1077 .f32) (f) (off : Fin 3 → Nat) (j : Fin 16) (h : off = ![j.val, 0, 0]) (inb) :
    View.readAt (Elt F) v (Rect.unit (s := S16x4x1077) off S1x4x1077.size inb).toLoadRect f = slabV (View.read (Elt F) v f) j := by
  subst h; exact View.readAt_unit v f _ rfl _

/-- A read of one slab of the stored chunks is that slab of what the buffer holds. -/
theorem readAt_slabY {κ : Kind} {sp : Space} (v : View sig κ sp S16x512x1077 .f32) (f) (off : Fin 3 → Nat) (j : Fin 16) (h : off = ![j.val, 0, 0]) (inb) :
    View.readAt (Elt F) v (Rect.unit (s := S16x512x1077) off S1x512x1077.size inb).toLoadRect f = slabY (View.read (Elt F) v f) j := by
  subst h; exact View.readAt_unit v f _ rfl _

/-- The offsets at which a computing step reads and writes. -/
theorem off_compute (i : grid0.Coords) (j : Fin 16) (hj : (i 1).val = j.val) :
    k0_off1 i = ![j.val, 0, 0] ∧ k0_off2 i = ![j.val, 0, 0] ∧ k0_off3 i = ![j.val, 0, 0] := by
  have h : (BitVec.ofNat 32 (i 1).val).toNat = j.val := by
    rw [BitVec.toNat_ofNat, hj]; have := j.isLt; omega
  refine ⟨?_, ?_, ?_⟩
  · unfold k0_off1; show ![(BitVec.ofNat 32 (i 1).val).toNat, 0, 0] = _; rw [h]
  · unfold k0_off2; show ![(BitVec.ofNat 32 (i 1).val).toNat, 0, 0] = _; rw [h]
  · unfold k0_off3; show ![(BitVec.ofNat 32 (i 1).val).toNat, 0, 0] = _; rw [h]

/-- The offset at which a scaling step reads. -/
theorem off_scale (i : grid0.Coords) (j : Fin 16) (hj : (i 1).val = j.val + 16) : k0_off4 i = ![j.val, 0, 0] := by
  have h : (BitVec.ofNat 32 (i 1).val - 16#32).toNat = j.val := by
    rw [BitVec.toNat_sub, BitVec.toNat_ofNat, hj]; have := j.isLt
    simp only [BitVec.toNat_ofNat]; omega
  unfold k0_off4; show ![(BitVec.ofNat 32 (i 1).val - 16#32).toNat, 0, 0] = _; rw [h]

set_option maxHeartbeats 4000000 in
/-- Case A, the first point of an image: the scratches are set up and chunk 0 computed. -/
theorem runA (c : Dev nD) (i : grid0.Coords) (arg2 : Memref sig .tc .vmem S1x128x1200 .f32) (harg2 : arg2.IsWhole) (arg3 : Memref sig .tc .vmem S64x128 .f32) (harg3 : arg3.IsWhole)
    (arg4 : Memref sig .tc .vmem S64x128 .f32) (harg4 : arg4.IsWhole) (arg5 : Memref sig .tc .vmem S1x4x128 .f32) (harg5 : arg5.IsWhole)
    (arg6 : Memref sig .tc .vmem S1x1x8192 .f32) (harg6 : arg6.IsWhole) (arg7 : Memref sig .tc .vmem S1x512x999 .f32) (harg7 : arg7.IsWhole)
    (arg8 : Memref sig .tc .vmem S128x1200 .f32) (harg8 : arg8.IsWhole) (arg9 : Memref sig .tc .vmem S16x4x1200 .f32) (harg9 : arg9.IsWhole)
    (arg10 : Memref sig .tc .vmem S16x4x1077 .f32) (harg10 : arg10.IsWhole) (arg11 : Memref sig .tc .vmem S16x512x1077 .f32) (harg11 : arg11.IsWhole)
    (arg12 : Memref sig .tc .vmem S1x1077 .f32) (harg12 : arg12.IsWhole)
    (j : Fin 16) (hj : (i 1).val = j.val) (hc0 : k0_cond1 i = 1#1) (hc1 : k0_cond2 i = 1#1) (hc2 : ¬k0_cond3 i = 1#1)
    (x0 : Vec F S1x128x1200 .f32) (x1 x2 : Vec F S64x128 .f32) (x3 : Vec F S1x4x128 .f32) (x4 : Vec F S1x1x8192 .f32) (x5 : Vec F S1x512x999 .f32)
    (xs0 : Vec F S128x1200 .f32) (xs1 : Vec F S16x4x1200 .f32) (xs2 : Vec F S16x4x1077 .f32) (xs3 : Vec F S16x512x1077 .f32) (xs4 : Vec F S1x1077 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (k0_pay6 x0) (k0_pay8 x0 x1) x2) ∗ owns (c : Thread nD τ) arg7 fullShare x5 ∗ owns (c : Thread nD τ) arg8 fullShare (k0_pay7 x0) ∗ owns (c : Thread nD τ) arg9 fullShare (k0_pay9 x0 x1) ∗ owns (c : Thread nD τ) arg10 fullShare (k0_pay1 (k0_pay10 x0 x1)) ∗ owns (c : Thread nD τ) arg11 fullShare (putY xs3 j (k0_pay3 (yOf (k0_pay7 x0) (k0_pay9 x0 x1) (k0_pay1 (k0_pay10 x0 x1)) x3 j))) ∗ owns (c : Thread nD τ) arg12 fullShare (k0_pay4 i (yOf (k0_pay7 x0) (k0_pay9 x0 x1) (k0_pay1 (k0_pay10 x0 x1)) x3 j) xs4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  have e2 : View.readAt (Elt F) arg2.view (Rect.unit ![0, 0, 0] S1x128x1200.size inb_S1x128x1200_S1x128x1200_0_0_0).toLoadRect (harg2.unread x0) = x0 :=
    (View.readAt_full _ _ _).trans (harg2.read_unread _)
  have e3 : View.readAt (Elt F) arg3.view (Rect.unit ![0, 0] S64x128.size inb_S64x128_S64x128_0_0).toLoadRect (harg3.unread x1) = x1 :=
    (View.readAt_full _ _ _).trans (harg3.read_unread _)
  have e4 : View.readAt (Elt F) arg4.view (Rect.unit ![0, 0] S64x128.size inb_S64x128_S64x128_0_0).toLoadRect (harg4.unread x2) = x2 :=
    (View.readAt_full _ _ _).trans (harg4.read_unread _)
  have e5 : View.readAt (Elt F) arg5.view (Rect.unit ![0, 0, 0] S1x4x128.size inb_S1x4x128_S1x4x128_0_0_0).toLoadRect (harg5.unread x3) = x3 :=
    (View.readAt_full _ _ _).trans (harg5.read_unread _)
  have e12 : View.readAt (Elt F) arg12.view (Rect.unit ![0, 0] S1x1077.size inb_S1x1077_S1x1077_0_0).toLoadRect (harg12.unread xs4) = xs4 :=
    (View.readAt_full _ _ _).trans (harg12.read_unread _)
  obtain ⟨ho1, ho2, ho3⟩ := off_compute i j hj
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans ?_; rfl
  isplitl [H5]
  · iexists _; isplitr; · ipureintro; exact harg7.read_unread _
    iexact H5
  isplitl [H6]
  · iexists _; isplitr
    swap; · iexact H6
    ipureintro
    unfold runA.sl.H6_1; exact View.read_writes_full _ _ _ _ _
  isplitl [H7]
  · iexists _; isplitr
    swap; · iexact H7
    ipureintro
    unfold runA.sl.H7_1; exact View.read_writes_full _ _ _ _ _
  isplitl [H8]
  · iexists _; isplitr
    swap; · iexact H8
    ipureintro
    unfold runA.sl.H8_1; exact View.read_writes_full _ _ _ _ _
  isplitl [H9]
  · iexists _; isplitr
    swap; · iexact H9
    ipureintro
    have hY : runA.sl.r c i arg8 arg9 arg10 hc1 x0 x1 x3 = yOf (k0_pay7 x0) (k0_pay9 x0 x1) (k0_pay1 (k0_pay10 x0 x1)) x3 j := by
      unfold runA.sl.r yOf
      rw [readAt_slabA _ _ _ j ho1 _, readAt_slabV _ _ _ j ho2 _]
      unfold runA.sl.v12 runA.sl.H6_1 runA.sl.H7_1 runA.sl.H8_1
      rw [View.read_writes_full arg9.view, View.read_writes_full arg10.view, View.readCov_full arg8.view]
    rw [hY]
    refine (View.read_writes_cons_put _ _ _ _ _ ho3).trans ?_
    rw [View.writes_nil, harg11.read_unread]; rfl
  iexists _; isplitr
  swap; · iexact H10
  ipureintro
  have hY : runA.sl.r c i arg8 arg9 arg10 hc1 x0 x1 x3 = yOf (k0_pay7 x0) (k0_pay9 x0 x1) (k0_pay1 (k0_pay10 x0 x1)) x3 j := by
    unfold runA.sl.r yOf
    rw [readAt_slabA _ _ _ j ho1 _, readAt_slabV _ _ _ j ho2 _]
    unfold runA.sl.v12 runA.sl.H6_1 runA.sl.H7_1 runA.sl.H8_1
    rw [View.read_writes_full arg9.view, View.read_writes_full arg10.view, View.readCov_full arg8.view]
  refine (View.read_writes_full _ _ _ _ _).trans ?_
  rw [hY]

set_option maxHeartbeats 4000000 in
/-- Case B, a further chunk of an image: the chunk is computed from the scratches. -/
theorem runB (c : Dev nD) (i : grid0.Coords) (arg2 : Memref sig .tc .vmem S1x128x1200 .f32) (harg2 : arg2.IsWhole) (arg3 : Memref sig .tc .vmem S64x128 .f32) (harg3 : arg3.IsWhole)
    (arg4 : Memref sig .tc .vmem S64x128 .f32) (harg4 : arg4.IsWhole) (arg5 : Memref sig .tc .vmem S1x4x128 .f32) (harg5 : arg5.IsWhole)
    (arg6 : Memref sig .tc .vmem S1x1x8192 .f32) (harg6 : arg6.IsWhole) (arg7 : Memref sig .tc .vmem S1x512x999 .f32) (harg7 : arg7.IsWhole)
    (arg8 : Memref sig .tc .vmem S128x1200 .f32) (harg8 : arg8.IsWhole) (arg9 : Memref sig .tc .vmem S16x4x1200 .f32) (harg9 : arg9.IsWhole)
    (arg10 : Memref sig .tc .vmem S16x4x1077 .f32) (harg10 : arg10.IsWhole) (arg11 : Memref sig .tc .vmem S16x512x1077 .f32) (harg11 : arg11.IsWhole)
    (arg12 : Memref sig .tc .vmem S1x1077 .f32) (harg12 : arg12.IsWhole)
    (j : Fin 16) (hj : (i 1).val = j.val) (hc0 : ¬k0_cond1 i = 1#1) (hc1 : k0_cond2 i = 1#1) (hc2 : ¬k0_cond3 i = 1#1)
    (x0 : Vec F S1x128x1200 .f32) (x1 x2 : Vec F S64x128 .f32) (x3 : Vec F S1x4x128 .f32) (x4 : Vec F S1x1x8192 .f32) (x5 : Vec F S1x512x999 .f32)
    (xs0 : Vec F S128x1200 .f32) (xs1 : Vec F S16x4x1200 .f32) (xs2 : Vec F S16x4x1077 .f32) (xs3 : Vec F S16x512x1077 .f32) (xs4 : Vec F S1x1077 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2 ∗ owns (c : Thread nD τ) arg11 fullShare (putY xs3 j (k0_pay3 (yOf xs0 xs1 xs2 x3 j))) ∗ owns (c : Thread nD τ) arg12 fullShare (k0_pay4 i (yOf xs0 xs1 xs2 x3 j) xs4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  have e5 : View.readAt (Elt F) arg5.view (Rect.unit ![0, 0, 0] S1x4x128.size inb_S1x4x128_S1x4x128_0_0_0).toLoadRect (harg5.unread x3) = x3 :=
    (View.readAt_full _ _ _).trans (harg5.read_unread _)
  have e8 : View.readAt (Elt F) arg8.view (Rect.unit ![0, 0] S128x1200.size inb_S128x1200_S128x1200_0_0).toLoadRect (harg8.unread xs0) = xs0 :=
    (View.readAt_full _ _ _).trans (harg8.read_unread _)
  have e12 : View.readAt (Elt F) arg12.view (Rect.unit ![0, 0] S1x1077.size inb_S1x1077_S1x1077_0_0).toLoadRect (harg12.unread xs4) = xs4 :=
    (View.readAt_full _ _ _).trans (harg12.read_unread _)
  obtain ⟨ho1, ho2, ho3⟩ := off_compute i j hj
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    have hY : runB.sl.r c i arg9 harg9 arg10 harg10 hc1 x3 xs0 xs1 xs2 = yOf xs0 xs1 xs2 x3 j := by
      unfold runB.sl.r yOf
      refine congrArg₂ (fun X Z => k0_pay11 X xs0 x3 Z) ?_ ?_
      · refine (readAt_slabA _ _ _ j ho1 _).trans (congrArg (fun X => slabA X j) ?_)
        exact harg9.read_unread _
      · refine (readAt_slabV _ _ _ j ho2 _).trans (congrArg (fun X => slabV X j) ?_)
        exact harg10.read_unread _
    rw [hY]
    refine (View.read_writes_cons_put _ _ _ _ _ ho3).trans ?_
    rw [View.writes_nil, harg11.read_unread]; rfl
  iexists _; isplitr
  swap; · iexact H10
  ipureintro
  have hY : runB.sl.r c i arg9 harg9 arg10 harg10 hc1 x3 xs0 xs1 xs2 = yOf xs0 xs1 xs2 x3 j := by
    unfold runB.sl.r yOf
    refine congrArg₂ (fun X Z => k0_pay11 X xs0 x3 Z) ?_ ?_
    · refine (readAt_slabA _ _ _ j ho1 _).trans (congrArg (fun X => slabA X j) ?_)
      exact harg9.read_unread _
    · refine (readAt_slabV _ _ _ j ho2 _).trans (congrArg (fun X => slabV X j) ?_)
      exact harg10.read_unread _
  refine (View.read_writes_full _ _ _ _ _).trans ?_
  rw [hY]

set_option maxHeartbeats 4000000 in
/-- Case C: a stored chunk is scaled and written to the second output. -/
theorem runC (c : Dev nD) (i : grid0.Coords) (arg2 : Memref sig .tc .vmem S1x128x1200 .f32) (harg2 : arg2.IsWhole) (arg3 : Memref sig .tc .vmem S64x128 .f32) (harg3 : arg3.IsWhole)
    (arg4 : Memref sig .tc .vmem S64x128 .f32) (harg4 : arg4.IsWhole) (arg5 : Memref sig .tc .vmem S1x4x128 .f32) (harg5 : arg5.IsWhole)
    (arg6 : Memref sig .tc .vmem S1x1x8192 .f32) (harg6 : arg6.IsWhole) (arg7 : Memref sig .tc .vmem S1x512x999 .f32) (harg7 : arg7.IsWhole)
    (arg8 : Memref sig .tc .vmem S128x1200 .f32) (harg8 : arg8.IsWhole) (arg9 : Memref sig .tc .vmem S16x4x1200 .f32) (harg9 : arg9.IsWhole)
    (arg10 : Memref sig .tc .vmem S16x4x1077 .f32) (harg10 : arg10.IsWhole) (arg11 : Memref sig .tc .vmem S16x512x1077 .f32) (harg11 : arg11.IsWhole)
    (arg12 : Memref sig .tc .vmem S1x1077 .f32) (harg12 : arg12.IsWhole)
    (j : Fin 16) (hj : (i 1).val = j.val + 16) (hc0 : ¬k0_cond1 i = 1#1) (hc1 : ¬k0_cond2 i = 1#1) (hc2 : k0_cond3 i = 1#1)
    (x0 : Vec F S1x128x1200 .f32) (x1 x2 : Vec F S64x128 .f32) (x3 : Vec F S1x4x128 .f32) (x4 : Vec F S1x1x8192 .f32) (x5 : Vec F S1x512x999 .f32)
    (xs0 : Vec F S128x1200 .f32) (xs1 : Vec F S16x4x1200 .f32) (xs2 : Vec F S16x4x1077 .f32) (xs3 : Vec F S16x512x1077 .f32) (xs4 : Vec F S1x1077 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 xs4 (slabY xs3 j)) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  have e12 : View.readAt (Elt F) arg12.view (Rect.unit ![0, 0] S1x1077.size inb_S1x1077_S1x1077_0_0).toLoadRect (harg12.unread xs4) = xs4 :=
    (View.readAt_full _ _ _).trans (harg12.read_unread _)
  have ho4 := off_scale i j hj
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    refine congrArg (k0_pay5 xs4) ?_
    unfold runC.sl.v17
    refine (readAt_slabY _ _ _ j ho4 _).trans (congrArg (fun X => slabY X j) ?_)
    exact harg11.read_unread _
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  iexists _; isplitr; · ipureintro; exact harg12.read_unread _
  iexact H10

end Cert.KernelIdeal.Body

end
-- ==== Proof.State.lean ====
/-
  What the launch holds point by point: per image the scratches, the chunks' descriptors, the running sum of squares
  and the two output blocks, as functions of the arrays the region finds; and the pipeline's proof data over them.
-/
module

public import proofs.«01_k».proof.Proof.Body
public import Idealize.ShloMosaic.Lib.Claim
public import Idealize.ShloMosaic.Lib.ValueIdx
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Points -/

/-- The image of point `t`. -/
def img (t : Nat) : Fin 4 := ⟨t / 32 % 4, Nat.mod_lt _ (by decide)⟩
/-- The chunk of point `t`: computed there in the first half of an image, scaled and stored in the second. -/
def chk (t : Nat) : Fin 16 := ⟨t % 16, Nat.mod_lt _ (by decide)⟩

/-- The second grid coordinate of a step. -/
theorem coords_1 (t : Fin cfg0.N) : (grid0.coords t 1).val = t.val % 32 :=
  (by decide +kernel : ∀ t : Fin grid0.N, (grid0.coords t 1).val = t.val % 32) t

/-! ## The blocks the windows hand over -/

/-- Image `n` of the reshaped input, as the window hands it over. -/
def X0 (n : Fin 4) : Vec F S1x128x1200 .f32 := fun y => (V m c main_v0 : Vec F S4x128x1200 .f32) (ix3 n (y 1) (y 2))
/-- The convolution's weights. -/
def Wt : Vec F S64x128 .f32 := V m c main_arg1
/-- The centroids. -/
def Ct : Vec F S64x128 .f32 := V m c main_arg2
/-- The four centroids of chunk `j`. -/
def CH (j : Fin 16) : Vec F S1x4x128 .f32 := fun y => (V m c main_v1 : Vec F S16x4x128 .f32) (ix3 j (y 1) (y 2))

/-- The image block of a step. -/
theorem index0 (t : Fin cfg0.N) : win0_0.index t = ![(img t.val).val, 0, 0] :=
  (by decide +kernel : ∀ t : Fin grid0.N, win0_0.index t = ![(img t.val).val, 0, 0]) t
/-- The weights are one block. -/
theorem index1 (t : Fin cfg0.N) : win0_1.index t = ![0, 0] :=
  (by decide +kernel : ∀ t : Fin grid0.N, win0_1.index t = ![0, 0]) t
/-- The centroids are one block. -/
theorem index2 (t : Fin cfg0.N) : win0_2.index t = ![0, 0] :=
  (by decide +kernel : ∀ t : Fin grid0.N, win0_2.index t = ![0, 0]) t
/-- The chunk of centroids of a computing step. -/
theorem index3 (t : Fin cfg0.N) (h : t.val % 32 < 16) : win0_3.index t = ![(chk t.val).val, 0, 0] :=
  (by decide +kernel : ∀ t : Fin grid0.N, t.val % 32 < 16 → win0_3.index t = ![(chk t.val).val, 0, 0]) t h

/-- The image a step is given. -/
theorem iblk0_eq (t : Fin cfg0.N) : iblk m c 0 t = X0 m c (img t.val) := by
  funext y; unfold X0; blk_ext [iblk, index0 t]
/-- The weights a step is given. -/
theorem iblk1_eq (t : Fin cfg0.N) : iblk m c 1 t = Wt m c := by
  funext y; unfold Wt; blk_ext [iblk, index1 t]
/-- The centroids a step is given. -/
theorem iblk2_eq (t : Fin cfg0.N) : iblk m c 2 t = Ct m c := by
  funext y; unfold Ct; blk_ext [iblk, index2 t]
/-- The chunk of centroids a computing step is given. -/
theorem iblk3_eq (t : Fin cfg0.N) (h : t.val % 32 < 16) : iblk m c 3 t = CH m c (chk t.val) := by
  funext y; unfold CH; blk_ext [iblk, index3 t h]

/-! ## The scratches of an image -/

/-- The normalized image. -/
def XN (n : Fin 4) : Vec F S128x1200 .f32 := k0_pay7 (X0 m c n)
/-- The soft assignment, its clusters stacked by chunk. -/
def SA (n : Fin 4) : Vec F S16x4x1200 .f32 := k0_pay9 (X0 m c n) (Wt m c)
/-- The box sums of the soft assignment. -/
def SV (n : Fin 4) : Vec F S16x4x1077 .f32 := k0_pay1 (k0_pay10 (X0 m c n) (Wt m c))
/-- The normalized local descriptors of chunk `j`. -/
def Yd (n : Fin 4) (j : Fin 16) : FVec F S512x1077 .f32 := yOf (XN m c n) (SA m c n) (SV m c n) (CH m c j) j

/-- The sum over a chunk's rows of the squares. -/
def rowsq (y : FVec F S512x1077 .f32) : FVec F S1x1077 .f32 :=
  shapeCast S1x1077 (multiReduction .add [0] S1077 (mulf y y) 0x00000000#32 reduces_S512x1077_S1077 (.inl rfl) rfl) shapeCasts_S1077_S1x1077

/-- The running sum of squares after chunk `k`. -/
def Tsq (n : Fin 4) : Nat → Vec F S1x1077 .f32
  | 0 => addf (broadcast S1x1077 (Scalar.ofBits (F := F) .f32 0x00000000#32)) (rowsq (Yd m c n 0))
  | k + 1 => addf (Tsq n k) (rowsq (Yd m c n (chk (k + 1))))

/-- The squared norm after the first chunk is that chunk's. -/
theorem pay4_first (i : grid0.Coords) (h : (i 1).val = 0) (y : FVec F S512x1077 .f32) (z : Vec F S1x1077 .f32) :
    k0_pay4 i y z = addf (broadcast S1x1077 (Scalar.ofBits (F := F) .f32 0x00000000#32)) (rowsq y) := by
  unfold k0_pay4
  refine (shapeCast_id _ _).trans (congrArg (fun z => addf z (rowsq y)) ?_)
  show Scalar.select (Scalar.cmpi .eq (BitVec.ofNat 32 (i 1).val) 0#32) _ _ = _
  rw [h]
  exact if_pos (by decide)

/-- The squared norm after a later chunk has that chunk's added. -/
theorem pay4_next (i : grid0.Coords) (h : (i 1).val ≠ 0) (y : FVec F S512x1077 .f32) (z : Vec F S1x1077 .f32) :
    k0_pay4 i y z = addf z (rowsq y) := by
  unfold k0_pay4
  refine (shapeCast_id _ _).trans (congrArg (fun z => addf z (rowsq y)) ?_)
  show Scalar.select (Scalar.cmpi .eq (BitVec.ofNat 32 (i 1).val) 0#32) _ _ = _
  have h1 : Scalar.cmpi .eq (BitVec.ofNat 32 (i 1).val) 0#32 = 0#1 := by
    have hl : (i 1).val < 32 := (i 1).isLt
    revert h hl; generalize (i 1).val = k; intro h hl
    interval_cases k <;> first | exact absurd rfl h | rfl
  rw [h1]
  exact if_neg (by decide)

/-- The global descriptor's block of image `n`. -/
def Gout (n : Fin 4) : Vec F S1x1x8192 .f32 := k0_pay2 (k0_pay6 (X0 m c n)) (k0_pay8 (X0 m c n) (Wt m c)) (Ct m c)
/-- The local descriptors' block of image `n`, chunk `j`. -/
def Lout (n : Fin 4) (j : Fin 16) : Vec F S1x512x999 .f32 := k0_pay5 (Tsq m c n 15) (k0_pay3 (Yd m c n j))

/-! ## The invariant between points -/

/-- Before step `k` of image `n` (but the first) the scratches hold the image's data, the chunks before `k` and their sum. -/
def Inv (n : Fin 4) (k : Nat) (xs0 : Vec F S128x1200 .f32) (xs1 : Vec F S16x4x1200 .f32) (xs2 : Vec F S16x4x1077 .f32)
    (xs3 : Vec F S16x512x1077 .f32) (xs4 : Vec F S1x1077 .f32) : Prop :=
  k ≠ 0 → xs0 = XN m c n ∧ xs1 = SA m c n ∧ xs2 = SV m c n ∧ (∀ j : Fin 16, j.val < k → slabY xs3 j = k0_pay3 (Yd m c n j))
    ∧ xs4 = Tsq m c n (min k 16 - 1)

/-- The image changes only at a multiple of thirty-two. -/
theorem img_succ (t : Nat) (h : (t + 1) % 32 ≠ 0) : img (t + 1) = img t := by
  unfold img; ext; show (t + 1) / 32 % 4 = t / 32 % 4; omega

/-- The chunk of a computing step. -/
theorem chk_val (t : Nat) (h : t % 32 < 16) : (chk t).val = t % 32 := by show t % 16 = _; omega
/-- The chunk of a scaling step. -/
theorem chk_val' (t : Nat) (h : 16 ≤ t % 32) : (chk t).val + 16 = t % 32 := by show t % 16 + 16 = _; omega

/-- The first step establishes the invariant. -/
theorem Inv_first (t : Nat) (h0 : t % 32 = 0) (xs3 : Vec F S16x512x1077 .f32) (i : grid0.Coords) (hi : (i 1).val = t % 32) (xs4 : Vec F S1x1077 .f32) :
    Inv m c (img (t + 1)) ((t + 1) % 32) (XN m c (img t)) (SA m c (img t)) (SV m c (img t))
      (putY xs3 (chk t) (k0_pay3 (Yd m c (img t) (chk t)))) (k0_pay4 i (Yd m c (img t) (chk t)) xs4) := by
  intro hk
  rw [img_succ t hk]
  have e1 : (t + 1) % 32 = 1 := by omega
  have ec : chk t = 0 := by ext; show t % 16 = 0; omega
  refine ⟨rfl, rfl, rfl, fun j hj => ?_, ?_⟩
  · have : j = chk t := by rw [ec]; ext; show j.val = 0; omega
    subst this; exact slabY_putY_same _ _ _
  · rw [pay4_first i (by omega), e1, ec]; rfl

/-- A further computing step keeps it. -/
theorem Inv_next (t : Nat) (h0 : t % 32 ≠ 0) (h1 : t % 32 < 16) (xs0 : Vec F S128x1200 .f32) (xs1 : Vec F S16x4x1200 .f32) (xs2 : Vec F S16x4x1077 .f32)
    (xs3 : Vec F S16x512x1077 .f32) (xs4 : Vec F S1x1077 .f32) (i : grid0.Coords) (hi : (i 1).val = t % 32)
    (H : Inv m c (img t) (t % 32) xs0 xs1 xs2 xs3 xs4) :
    Inv m c (img (t + 1)) ((t + 1) % 32) xs0 xs1 xs2
      (putY xs3 (chk t) (k0_pay3 (yOf xs0 xs1 xs2 (CH m c (chk t)) (chk t)))) (k0_pay4 i (yOf xs0 xs1 xs2 (CH m c (chk t)) (chk t)) xs4) := by
  obtain ⟨rfl, rfl, rfl, H3, rfl⟩ := H h0
  intro hk
  rw [img_succ t hk]
  refine ⟨rfl, rfl, rfl, fun j hj => ?_, ?_⟩
  · by_cases e : j = chk t
    · subst e; exact slabY_putY_same _ _ _
    · rw [slabY_putY_ne _ _ _ _ e]
      refine H3 j ?_
      have : j.val ≠ (chk t).val := fun h => e (Fin.ext h)
      have := chk_val t h1
      omega
  · rw [pay4_next i (by omega)]
    obtain ⟨k, hk'⟩ : ∃ k, t % 32 = k + 1 := ⟨t % 32 - 1, by omega⟩
    have e1 : min ((t + 1) % 32) 16 - 1 = k + 1 := by omega
    have e2 : min (t % 32) 16 - 1 = k := by omega
    have e3 : chk t = chk (k + 1) := by ext; show t % 16 = (k + 1) % 16; omega
    rw [e1, e2, e3]; rfl

/-- A storing step keeps it. -/
theorem Inv_store (t : Nat) (h1 : 16 ≤ t % 32) (xs0 : Vec F S128x1200 .f32) (xs1 : Vec F S16x4x1200 .f32) (xs2 : Vec F S16x4x1077 .f32)
    (xs3 : Vec F S16x512x1077 .f32) (xs4 : Vec F S1x1077 .f32) (H : Inv m c (img t) (t % 32) xs0 xs1 xs2 xs3 xs4) :
    Inv m c (img (t + 1)) ((t + 1) % 32) xs0 xs1 xs2 xs3 xs4 := by
  obtain ⟨rfl, rfl, rfl, H3, rfl⟩ := H (by omega)
  intro hk
  rw [img_succ t hk]
  refine ⟨rfl, rfl, rfl, fun j hj => H3 j (by have := j.isLt; omega), ?_⟩
  congr 1; omega

/-- What a storing step writes. -/
theorem store_eq (t : Nat) (h1 : 16 ≤ t % 32) (xs0 : Vec F S128x1200 .f32) (xs1 : Vec F S16x4x1200 .f32) (xs2 : Vec F S16x4x1077 .f32)
    (xs3 : Vec F S16x512x1077 .f32) (xs4 : Vec F S1x1077 .f32) (H : Inv m c (img t) (t % 32) xs0 xs1 xs2 xs3 xs4) :
    k0_pay5 xs4 (slabY xs3 (chk t)) = Lout m c (img t) (chk t) := by
  obtain ⟨rfl, rfl, rfl, H3, rfl⟩ := H (by omega)
  unfold Lout
  rw [H3 (chk t) (by have := (chk t).isLt; omega), show min (t % 32) 16 - 1 = 15 by omega]

end Cert.KernelIdeal.Body

end
-- ==== Proof.Run.lean ====
/-
  The launch: the pipeline's proof data, its body obligation at every point from the three runs, the run of the
  program and its frame.
-/
module

public import proofs.«01_k».proof.Proof.State
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the outputs are live, written back and fresh -/

/-- The image is read at every step. -/
theorem live0 (t : Fin cfg0.N) : cfg0.idle 0 (grid0.coords t) = false := (by decide +kernel : ∀ t : Fin grid0.N, cfg0.idle 0 (grid0.coords t) = false) t
/-- The weights are read at every step. -/
theorem live1 (t : Fin cfg0.N) : cfg0.idle 1 (grid0.coords t) = false := (by decide +kernel : ∀ t : Fin grid0.N, cfg0.idle 1 (grid0.coords t) = false) t
/-- The centroids are read at every step. -/
theorem live2 (t : Fin cfg0.N) : cfg0.idle 2 (grid0.coords t) = false := (by decide +kernel : ∀ t : Fin grid0.N, cfg0.idle 2 (grid0.coords t) = false) t
/-- The chunk of centroids is read at every step. -/
theorem live3 (t : Fin cfg0.N) : cfg0.idle 3 (grid0.coords t) = false := (by decide +kernel : ∀ t : Fin grid0.N, cfg0.idle 3 (grid0.coords t) = false) t
/-- The first result is written at an image's first step only. -/
theorem idle4 (t : Fin cfg0.N) : cfg0.idle 4 (grid0.coords t) = !decide (t.val % 32 = 0) :=
  (by decide +kernel : ∀ t : Fin grid0.N, cfg0.idle 4 (grid0.coords t) = !decide (t.val % 32 = 0)) t
/-- The second result is written at the scaling steps only. -/
theorem idle5 (t : Fin cfg0.N) : cfg0.idle 5 (grid0.coords t) = !decide (16 ≤ t.val % 32) :=
  (by decide +kernel : ∀ t : Fin grid0.N, cfg0.idle 5 (grid0.coords t) = !decide (16 ≤ t.val % 32)) t
/-- The first result is written back after an image's last step. -/
theorem flush4 (t : Fin cfg0.N) : (cfg0.win 4).flush t = decide (t.val % 32 = 31) :=
  (by decide +kernel : ∀ t : Fin grid0.N, (cfg0.win 4).flush t = decide (t.val % 32 = 31)) t
/-- The second result is not written back before the scaling steps. -/
theorem flush5 (t : Fin cfg0.N) (h : t.val % 32 < 16) : (cfg0.win 5).flush t = false :=
  (by decide +kernel : ∀ t : Fin grid0.N, t.val % 32 < 16 → (cfg0.win 5).flush t = false) t h

/-- The first output's buffer holds nothing of the image exactly before its first step. -/
theorem fresh4 (n : ℕ) (h : n ≤ cfg0.N) : cfg0.fresh 4 n = decide (n % 32 = 0) :=
  Cfg.fresh_tab (cfg := cfg0) 4 (fun n => decide (n % 32 = 0)) rfl (fun t => by
    rw [flush4 t]; dsimp only
    rw [show idle0 4 (grid0.coords t) = !decide (t.val % 32 = 0) from idle4 t]
    have hN : t.val < 128 := lt_of_lt_of_eq t.isLt (show cfg0.N = 128 from N_0)
    by_cases h0 : t.val % 32 = 0
    · have : ¬ (t.val + 1) % 32 = 0 := by omega
      have : ¬ t.val % 32 = 31 := by omega
      simp [*]
    · by_cases h1 : t.val % 32 = 31
      · have : (t.val + 1) % 32 = 0 := by omega
        simp [*]
      · have : ¬ (t.val + 1) % 32 = 0 := by omega
        simp [*]) n h

/-! ## The proof data -/

/-- The scratches and the generator before point `t`. -/
def PhiS (c : Dev nD) (t : ℕ) : sProp 𝕄 :=
  iprop(∃ xs0 xs1 xs2 xs3 xs4, ⌜Inv m c (img t) (t % 32) xs0 xs1 xs2 xs3 xs4⌝
    ∗ owns (c : Thread nD τ) (Memref.whole cc0_scratch0) fullShare xs0
    ∗ owns (c : Thread nD τ) (Memref.whole cc0_scratch1) fullShare xs1
    ∗ owns (c : Thread nD τ) (Memref.whole cc0_scratch2) fullShare xs2
    ∗ owns (c : Thread nD τ) (Memref.whole cc0_scratch3) fullShare xs3
    ∗ owns (c : Thread nD τ) (Memref.whole cc0_scratch4) fullShare xs4
    ∗ ∃ r, prngReg c r)

/-- The proof data: the arrays as the region finds them, each input's buffer at its block, the outputs' at their closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Gout m c (img t.val)
    | ⟨5, _⟩ => Lout m c (img t.val) (chk t.val)
  Φ t := PhiS m c t.val
  q _ := fullShare
  owed _ := 0

/-- The arrays at the start are as launched. -/
theorem A_eq (c : Dev nD) (w : Fin cfg0.W) : (dats m 0 c).A w = V m c (Pipeline.arrRef spec0 w) := by
  dsimp only [dats]
/-- The invariant before a step. -/
theorem Phi_castSucc (c : Dev nD) (t : Fin cfg0.N) : (dats m 0 c).Φ t.castSucc = PhiS m c t.val := by
  dsimp only [dats]; exact Pipeline.Dat.Φ_castSucc (fun n _ => PhiS m c n) t
/-- A step leaves the image. -/
theorem after0 (c : Dev nD) (t : Fin cfg0.N) : (dats m 0 c).after 0 t = iblk m c 0 t := by dsimp only [dats]
/-- A step leaves the weights. -/
theorem after1 (c : Dev nD) (t : Fin cfg0.N) : (dats m 0 c).after 1 t = iblk m c 1 t := by dsimp only [dats]
/-- A step leaves the centroids. -/
theorem after2 (c : Dev nD) (t : Fin cfg0.N) : (dats m 0 c).after 2 t = iblk m c 2 t := by dsimp only [dats]
/-- A step leaves the chunk of centroids. -/
theorem after3 (c : Dev nD) (t : Fin cfg0.N) : (dats m 0 c).after 3 t = iblk m c 3 t := by dsimp only [dats]
/-- What the first result's buffer is said to hold after a step. -/
theorem after4 (c : Dev nD) (t : Fin cfg0.N) : (dats m 0 c).after 4 t = Gout m c (img t.val) := by dsimp only [dats]
/-- What the second result's buffer is said to hold after a step. -/
theorem after5 (c : Dev nD) (t : Fin cfg0.N) : (dats m 0 c).after 5 t = Lout m c (img t.val) (chk t.val) := by dsimp only [dats]

/-- A step finds the image. -/
theorem before0 (c : Dev nD) (t : Fin cfg0.N) (d) : (dats m 0 c).before 0 t d = iblk m c 0 t := before0_0_of m (dats m 0 c) (A_eq m c 0) (after0 m c) t d
/-- A step finds the weights. -/
theorem before1 (c : Dev nD) (t : Fin cfg0.N) (d) : (dats m 0 c).before 1 t d = iblk m c 1 t := before0_1_of m (dats m 0 c) (A_eq m c 1) (after1 m c) t d
/-- A step finds the centroids. -/
theorem before2 (c : Dev nD) (t : Fin cfg0.N) (d) : (dats m 0 c).before 2 t d = iblk m c 2 t := before0_2_of m (dats m 0 c) (A_eq m c 2) (after2 m c) t d
/-- A step finds the chunk of centroids. -/
theorem before3 (c : Dev nD) (t : Fin cfg0.N) (d) : (dats m 0 c).before 3 t d = iblk m c 3 t := before0_3_of m (dats m 0 c) (A_eq m c 3) (after3 m c) t d

/-- After an image's first step the first output's buffer holds the image's global descriptor. -/
theorem before4 (c : Dev nD) (t : Fin cfg0.N) (h0 : t.val % 32 ≠ 0) (d) : (dats m 0 c).before 4 t d = Gout m c (img t.val) := by
  have hprev : ∀ t : Fin cfg0.N, t.val % 32 ≠ 0 → img (t.val - 1) = img t.val := fun t h => by
    unfold img; ext; show (t.val - 1) / 32 % 4 = t.val / 32 % 4; omega
  have hle : t.val ≤ cfg0.N := Nat.le_of_lt t.isLt
  rw [Dat.before_out_traj (dats m 0 c) 4 rfl (fun _ _ => rfl) (fun t hz hi hf => by
    rw [fresh4 t.val (Nat.le_of_lt t.isLt)] at hf
    rw [after4, after4]
    rw [hprev t (by simpa using hf)]) t.val t rfl d, fresh4 t.val hle, if_neg (by simpa using h0), after4]
  rw [hprev t h0]

/-! ## The body obligation -/

/-- What a step is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What a step leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The image's buffer after a step. -/
theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from live0 t, after0]
/-- The weights' buffer after a step. -/
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from live1 t, after1]
/-- The centroids' buffer after a step. -/
theorem leaves2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from live2 t, after2]
/-- The buffer of the chunk of centroids after a step. -/
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from live3 t, after3]

/-- Where the first output is stored its buffer is left at the global descriptor. -/
theorem leaves4_first (c : Dev nD) (t : Fin cfg0.N) (h0 : t.val % 32 = 0) :
    (dats m 0 c).leavesExact 4 t = owns (c : Thread nD τ) (st0_4 t) fullShare (Gout m c (img t.val)) := by
  unfold Dat.leavesExact
  rw [show cfg0.idle 4 (cfg0.grid.coords t) = false from (idle4 t).trans (by simp [h0]), after4]
/-- At any later step it is left as found, which is the global descriptor. -/
theorem leaves4_later (c : Dev nD) (t : Fin cfg0.N) (h0 : t.val % 32 ≠ 0) (d) :
    owns (c : Thread nD τ) (st0_4 t) fullShare ((dats m 0 c).before 4 t d) ⊢ (dats m 0 c).leavesExact 4 t := by
  have hi : cfg0.idle 4 (cfg0.grid.coords t) = true := (idle4 t).trans (by simp [h0])
  by_cases h : t.val % 32 = 31
  · unfold Dat.leavesExact
    rw [hi, show (cfg0.win 4).flush t = true from (flush4 t).trans (by simp [h]), after4, before4 m c t h0]
  · rw [Dat.leavesExact_idle (dats m 0 c) 4 t hi ((flush4 t).trans (by simp [h]))]
    iintro H; iexists d; iexact H
/-- Where the second output is stored its buffer is left at the local descriptors. -/
theorem leaves5_store (c : Dev nD) (t : Fin cfg0.N) (h : 16 ≤ t.val % 32) :
    (dats m 0 c).leavesExact 5 t = owns (c : Thread nD τ) (st0_5 t) fullShare (Lout m c (img t.val) (chk t.val)) := by
  unfold Dat.leavesExact
  rw [show cfg0.idle 5 (cfg0.grid.coords t) = false from (idle5 t).trans (by simp [h]), after5]
/-- Before that it is left as found. -/
theorem leaves5_idle (c : Dev nD) (t : Fin cfg0.N) (h : t.val % 32 < 16) (d) :
    owns (c : Thread nD τ) (st0_5 t) fullShare ((dats m 0 c).before 5 t d) ⊢ (dats m 0 c).leavesExact 5 t := by
  rw [Dat.leavesExact_idle (dats m 0 c) 5 t ((idle5 t).trans (by simp; omega)) (flush5 t h)]
  iintro H; iexists d; iexact H

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, Phi_castSucc, leaves0, leaves1, leaves2, leaves3]
  have hN : t.val < 128 := lt_of_lt_of_eq t.isLt (show cfg0.N = 128 from N_0)
  have hi := coords_1 t
  by_cases h0 : t.val % 32 = 0
  · have h1 : t.val % 32 < 16 := by omega
    have hj : (grid0.coords t 1).val = (chk t.val).val := by rw [hi, chk_val _ h1]
    rw [leaves4_first m c t h0]
    unfold PhiS
    iintro ⟨⟨%xs0, %xs1, %xs2, %xs3, %xs4, %hI, HS0, HS1, HS2, HS3, HS4, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ (Memref.isWhole_whole _) _ (Memref.isWhole_whole _) _ (Memref.isWhole_whole _) _ (Memref.isWhole_whole _) _ (Memref.isWhole_whole _) (chk t.val) hj ((hcond1 t).mpr h0) ((hcond2 t).mpr h1) (fun h => absurd ((hcond3 t).mp h) (by omega))
      (iblk m c 0 t) (iblk m c 1 t) (iblk m c 2 t) (iblk m c 3 t) ((dats m 0 c).before 4 t d4) ((dats m 0 c).before 5 t d5) xs0 xs1 xs2 xs3 xs4 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS0, HS1, HS2, HS3, HS4⟩
    isplitl [HS0 HS1 HS2 HS3 HS4 Hg]
    · iexists _, _, _, _, _
      isplitr
      swap
      · isplitl [HS0]; · iexact HS0
        isplitl [HS1]; · iexact HS1
        isplitl [HS2]; · iexact HS2
        isplitl [HS3]; · iexact HS3
        isplitl [HS4]; · iexact HS4
        iexact Hg
      ipureintro
      rw [iblk0_eq, iblk1_eq, iblk3_eq m c t h1]
      exact Inv_first m c t.val h0 xs3 _ hi xs4
    isplitl [Ho]; · iexact Ho
    isplitl [H0]; · iexact H0
    isplitl [H1]; · iexact H1
    isplitl [H2]; · iexact H2
    isplitl [H3]; · iexact H3
    isplitl [H4]
    · rw [iblk0_eq, iblk1_eq, iblk2_eq]; iexact H4
    iapply (leaves5_idle m c t h1 d5); iexact H5
  by_cases h1 : t.val % 32 < 16
  · have hj : (grid0.coords t 1).val = (chk t.val).val := by rw [hi, chk_val _ h1]
    unfold PhiS
    iintro ⟨⟨%xs0, %xs1, %xs2, %xs3, %xs4, %hI, HS0, HS1, HS2, HS3, HS4, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ (Memref.isWhole_whole _) _ (Memref.isWhole_whole _) _ (Memref.isWhole_whole _) _ (Memref.isWhole_whole _) _ (Memref.isWhole_whole _) (chk t.val) hj (fun h => h0 ((hcond1 t).mp h)) ((hcond2 t).mpr h1) (fun h => absurd ((hcond3 t).mp h) (by omega))
      (iblk m c 0 t) (iblk m c 1 t) (iblk m c 2 t) (iblk m c 3 t) ((dats m 0 c).before 4 t d4) ((dats m 0 c).before 5 t d5) xs0 xs1 xs2 xs3 xs4 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS0, HS1, HS2, HS3, HS4⟩
    isplitl [HS0 HS1 HS2 HS3 HS4 Hg]
    · iexists _, _, _, _, _
      isplitr
      swap
      · isplitl [HS0]; · iexact HS0
        isplitl [HS1]; · iexact HS1
        isplitl [HS2]; · iexact HS2
        isplitl [HS3]; · iexact HS3
        isplitl [HS4]; · iexact HS4
        iexact Hg
      ipureintro
      rw [iblk3_eq m c t h1]
      exact Inv_next m c t.val h0 h1 xs0 xs1 xs2 xs3 xs4 _ hi hI
    isplitl [Ho]; · iexact Ho
    isplitl [H0]; · iexact H0
    isplitl [H1]; · iexact H1
    isplitl [H2]; · iexact H2
    isplitl [H3]; · iexact H3
    isplitl [H4]
    · iapply (leaves4_later m c t h0 d4); iexact H4
    iapply (leaves5_idle m c t h1 d5); iexact H5
  · have h2 : 16 ≤ t.val % 32 := by omega
    have hj : (grid0.coords t 1).val = (chk t.val).val + 16 := by rw [hi, chk_val' _ h2]
    rw [leaves5_store m c t h2]
    unfold PhiS
    iintro ⟨⟨%xs0, %xs1, %xs2, %xs3, %xs4, %hI, HS0, HS1, HS2, HS3, HS4, Hg⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ (Memref.isWhole_whole _) _ (Memref.isWhole_whole _) _ (Memref.isWhole_whole _) _ (Memref.isWhole_whole _) _ (Memref.isWhole_whole _) (chk t.val) hj (fun h => h0 ((hcond1 t).mp h)) (fun h => h1 ((hcond2 t).mp h)) ((hcond3 t).mpr h2)
      (iblk m c 0 t) (iblk m c 1 t) (iblk m c 2 t) (iblk m c 3 t) ((dats m 0 c).before 4 t d4) ((dats m 0 c).before 5 t d5) xs0 xs1 xs2 xs3 xs4 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    iintro ⟨H0, H1, H2, H3, H4, H5, HS0, HS1, HS2, HS3, HS4⟩
    isplitl [HS0 HS1 HS2 HS3 HS4 Hg]
    · iexists _, _, _, _, _
      isplitr
      swap
      · isplitl [HS0]; · iexact HS0
        isplitl [HS1]; · iexact HS1
        isplitl [HS2]; · iexact HS2
        isplitl [HS3]; · iexact HS3
        isplitl [HS4]; · iexact HS4
        iexact Hg
      ipureintro
      exact Inv_store m c t.val h2 xs0 xs1 xs2 xs3 xs4 hI
    isplitl [Ho]; · iexact Ho
    isplitl [H0]; · iexact H0
    isplitl [H1]; · iexact H1
    isplitl [H2]; · iexact H2
    isplitl [H3]; · iexact H3
    isplitl [H4]
    · iapply (leaves4_later m c t h0 d4); iexact H4
    rw [store_eq m c t.val h2 xs0 xs1 xs2 xs3 xs4 hI]; iexact H5

/-- The body at a step. -/
theorem defs₀_row (t : Fin cfg0.N) : defs₀ (F := F) .tc cfg0.body (cfg0.bodyArgs t (cfg0.slots t)) = bodyAt0 t := by
  unfold defs₀; rw [Defs.onTc_tc]

/-- Every step meets its obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region, the scratches as memrefs. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)
      ∗ (∃ d, owns (c : Thread nD τ) (Memref.whole cc0_scratch4) fullShare d)) ∗ (∃ r, prngReg c r)) := by
  unfold Pipeline.ΦA; rw [scopedRest0_eq]; simp only [owns_whole]; try rfl

/-- The invariant holds at the launch. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d0, H0⟩, ⟨%d1, H1⟩, ⟨%d2, H2⟩, ⟨%d3, H3⟩, ⟨%d4, H4⟩⟩, Hg⟩
  iexists d0, d1, d2, d3, d4
  isplitr; · ipureintro; exact fun h => absurd rfl h
  isplitl [H0]; · iexact H0
  isplitl [H1]; · iexact H1
  isplitl [H2]; · iexact H2
  isplitl [H3]; · iexact H3
  isplitl [H4]; · iexact H4
  iexact Hg

/-- The invariant at the end gives back the scratches. -/
theorem hout (c : Dev nD) : (dats m 0 c).Φ (Fin.last cfg0.N) ⊢ Pipeline.ΦA spec0 c := by
  rw [show (dats m 0 c).Φ (Fin.last cfg0.N) = PhiS m c cfg0.N from rfl, PhiA_eq]
  unfold PhiS
  iintro ⟨%xs0, %xs1, %xs2, %xs3, %xs4, %hI, H0, H1, H2, H3, H4, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
/-- The run: every array at what the proof data says, every counter at zero. -/
theorem run_full : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array at what the proof data says. -/
theorem run_main : θ_run defs (onTc (τ := τ) (main (F := F))) (s₀ m ρ) (Pipeline.FramePost cfgs (dats m) 0 (V m)) :=
  (θ_run defs _ _).mono (fun _ h => h.1) (run_full m ρ)

/-- The frame, at any values: the arguments end as launched and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_full m ρ))

end Cert.KernelIdeal.Body

end
-- ==== Proof.KFrame.lean ====
/- The printed kernel's frame. The module idealized with no rewrite is the same program under another name,
   so the run proved for any reading of the floats serves the printed kernel at the machine's values. -/
module

public import proofs.«01_k».proof.Proof.Run
public import proofs.«01_k».proof.Proof.Gen.Kernel

@[expose] public section

noncomputable section

namespace Cert.Kernel.Body

open Idealize.ShloMosaic Idealize.ShloMosaic.TcCoe
open Idealize.SL.Sem

attribute [local instance] Cert.Kernel.Gen.facts Cert.KernelIdeal.Gen.facts

/-- The kernel body of the two modules is the same at every label. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => with_unfolding_all rfl
  | ⟨_ + 1, h⟩, _ => exact absurd h (Nat.not_lt.2 (Nat.le_add_left _ _))

/-- So are the pipelined definitions built from it. -/
theorem defs_eq : Cert.Kernel.defs (F := Bits) = Cert.KernelIdeal.defs (F := Bits) := by
  unfold Cert.Kernel.defs Cert.KernelIdeal.defs
  exact congrArg (Pipeline.defs _) defs₀_eq

/-- And the host program around the launch. -/
theorem main_eq : Cert.Kernel.main (F := Bits) = Cert.KernelIdeal.main (F := Bits) := by with_unfolding_all rfl

/-- The printed kernel runs, leaves its arguments as they were and every semaphore at rest. -/
theorem frame_bits (m : (ℓ : Loc nD τ sig) → Buf (Elt Bits) ℓ) (ρ : Dev nD → PrngReg) :
    θ_run (Cert.Kernel.defs (F := Bits)) (onTc (τ := τ) (Cert.Kernel.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.KernelIdeal.Body.frame_any (F := Bits) m ρ

end Cert.Kernel.Body

end
-- ==== Proof.Spec.lean ====
/- The problem over the extended reals, on one image: the normalized pixels, the soft assignment, the global and the
   local descriptors, once as the kernel sums them and once as the reference does. -/
module

public import Idealize.ShloMosaic.PureOps.Ideal
public import Idealize.ShloMosaic.PureOps.Ideal.Laws

@[expose] public section

noncomputable section

namespace Cert.Vlad

open Idealize.ShloMosaic

/-- The floor under every norm. -/
def eps : EReal := Ideal.ofBits .f32 730643660#32

/-- The floored length of a row. -/
def nrm {n : ℕ} (f : Fin n → EReal) : EReal := max (Ideal.sqrt (∑ i, f i * f i)) eps

variable (x : Fin 128 → Fin 1200 → EReal) (w c : Fin 64 → Fin 128 → EReal)

/-- A pixel, normalized over the channels. -/
def xn (j : Fin 128) (p : Fin 1200) : EReal := Ideal.div (x j p) (nrm fun i => x i p)

/-- The score of cluster `k` at pixel `p`. -/
def lg (k : Fin 64) (p : Fin 1200) : EReal := ∑ j, w k j * xn x j p

/-- The largest score at a pixel. -/
def top (p : Fin 1200) : EReal := Finset.fold max (Ideal.ofBits .f32 4286578688#32) (fun k => lg x w k p) Finset.univ

/-- The exponential of a score over the largest. -/
def ex (k : Fin 64) (p : Fin 1200) : EReal := Ideal.exp (lg x w k p - top x w p)

/-- The soft assignment. -/
def sa (k : Fin 64) (p : Fin 1200) : EReal := Ideal.div (ex x w k p) (∑ i, ex x w i p)

/-- The residual of a pixel from a centroid, weighted by its assignment. -/
def res (k : Fin 64) (j : Fin 128) (p : Fin 1200) : EReal := (xn x j p - c k j) * sa x w k p

/-- A row over its floored length. -/
def unit {n : ℕ} (f : Fin n → EReal) (i : Fin n) : EReal := Ideal.div (f i) (nrm f)

/-! ## The global descriptor -/

/-- The kernel's sum: the weighted pixels less the centroid times the weights. -/
def gK (k : Fin 64) (j : Fin 128) : EReal := ∑ p, sa x w k p * xn x j p - c k j * ∑ p, sa x w k p

/-- Pixel `(h, v)` in row-major order. -/
def pix (h : Fin 30) (v : Fin 40) : Fin 1200 := ⟨h.val * 40 + v.val, by have := h.isLt; have := v.isLt; omega⟩

/-- The reference's sum: the residuals. -/
def gR (k : Fin 64) (j : Fin 128) : EReal := ∑ h, ∑ v, res x w c k j (pix h v)

/-- The floored length of a family of rows, each normalized. -/
def total (g : Fin 64 → Fin 128 → EReal) : EReal := max (Ideal.sqrt (∑ k, ∑ j, unit (g k) j * unit (g k) j)) eps

/-- Every row normalized, then all of them together. -/
def unit2 (g : Fin 64 → Fin 128 → EReal) (k : Fin 64) (j : Fin 128) : EReal := Ideal.div (unit (g k) j) (total g)

/-! ## The local descriptors -/

/-- The sum of a 4 by 4 patch of an image stored row by row, its corner at flat position `q`, as the kernel adds it. -/
def box4 (f : Fin 1200 → EReal) (q : Fin 1077) : EReal :=
  have := q.isLt
  (((f ⟨q.val, by omega⟩ + f ⟨1 + q.val, by omega⟩) + (f ⟨2 + q.val, by omega⟩ + f ⟨1 + (2 + q.val), by omega⟩))
    + ((f ⟨40 + q.val, by omega⟩ + f ⟨1 + (40 + q.val), by omega⟩) + (f ⟨2 + (40 + q.val), by omega⟩ + f ⟨1 + (2 + (40 + q.val)), by omega⟩)))
  + (((f ⟨80 + q.val, by omega⟩ + f ⟨1 + (80 + q.val), by omega⟩) + (f ⟨2 + (80 + q.val), by omega⟩ + f ⟨1 + (2 + (80 + q.val)), by omega⟩))
    + ((f ⟨40 + (80 + q.val), by omega⟩ + f ⟨1 + (40 + (80 + q.val)), by omega⟩)
      + (f ⟨2 + (40 + (80 + q.val)), by omega⟩ + f ⟨1 + (2 + (40 + (80 + q.val))), by omega⟩)))

/-- The kernel's patch mean. -/
def yK (k : Fin 64) (j : Fin 128) (q : Fin 1077) : EReal :=
  (box4 (fun p => sa x w k p * xn x j p) q - c k j * box4 (sa x w k) q) * Ideal.ofBits .f32 1031798784#32

/-- The sum of the entries up to a place. -/
def pre {n : ℕ} (f : Fin n → EReal) (i : Fin n) : EReal := ∑ a : Fin n, if a.val ≤ i.val then f a else 0

/-- The integral image: over every row up to `h`, every entry up to `v`. -/
def integ (r : Fin 30 → Fin 40 → EReal) (h : Fin 30) (v : Fin 40) : EReal := pre (fun a => pre (r a) v) h

/-- The integral image with a row and a column of zeros before it. -/
def padded (r : Fin 30 → Fin 40 → EReal) (h : Fin 31) (v : Fin 41) : EReal :=
  if hv : 1 ≤ h.val ∧ 1 ≤ v.val then
    integ r ⟨h.val - 1, by have := h.isLt; omega⟩ ⟨v.val - 1, by have := v.isLt; omega⟩
  else 0

/-- The reference's patch mean, by the four corners of the integral image. -/
def corners (r : Fin 30 → Fin 40 → EReal) (h : Fin 27) (v : Fin 37) : EReal :=
  have := h.isLt
  have := v.isLt
  ((padded r ⟨h.val, by omega⟩ ⟨v.val, by omega⟩ - padded r ⟨h.val, by omega⟩ ⟨4 + v.val, by omega⟩)
    - padded r ⟨4 + h.val, by omega⟩ ⟨v.val, by omega⟩) + padded r ⟨4 + h.val, by omega⟩ ⟨4 + v.val, by omega⟩

/-- The reference's patch mean of the residuals. -/
def yR (k : Fin 64) (j : Fin 128) (h : Fin 27) (v : Fin 37) : EReal :=
  Ideal.div (corners (fun a b => res x w c k j (pix a b)) h v) (Ideal.ofBits .f32 0x41800000#32)

/-! ## The results over the whole batch -/

/-- Image `n` of the batch, its pixels in row-major order. -/
def image (X : Fin 4 → Fin 128 → Fin 30 → Fin 40 → EReal) (n : Fin 4) (j : Fin 128) (p : Fin 1200) : EReal :=
  X n j ⟨p.val / 40, by have := p.isLt; omega⟩ ⟨p.val % 40, by omega⟩

/-- The cluster of a descriptor's row. -/
def cluster (R : Fin 8192) : Fin 64 := ⟨R.val / 128, by have := R.isLt; omega⟩

/-- The channel of a descriptor's row. -/
def channel (R : Fin 8192) : Fin 128 := ⟨R.val % 128, by omega⟩

/-- The row of a patch. -/
def prow (q : Fin 999) : Fin 27 := ⟨q.val / 37, by have := q.isLt; omega⟩

/-- The column of a patch. -/
def pcol (q : Fin 999) : Fin 37 := ⟨q.val % 37, by omega⟩

/-- The place of a patch's corner in the flat image. -/
def loc (h : Fin 27) (v : Fin 37) : Fin 1077 := ⟨h.val * 40 + v.val, by have := h.isLt; have := v.isLt; omega⟩

end Cert.Vlad

end
-- ==== Proof.Maths.lean ====
/- The two ways of summing agree where the weights are real: the soft assignment is real and positive, so a cluster
   whose centroid is real gives the same row, and one whose centroid is not gives a row that normalizes to zero. -/
module

public import proofs.«01_k».proof.Proof.Spec

@[expose] public section

noncomputable section

namespace Cert.Vlad

open Idealize.ShloMosaic

/-! ## Real and infinite extended reals -/

/-- The extended real is a real number. -/
def IsR (a : EReal) : Prop := ∃ r : ℝ, a = (r : EReal)

/-- The extended real is an infinity. -/
def IsI (a : EReal) : Prop := a = ⊤ ∨ a = ⊥

/-- Every extended real is real or an infinity. -/
theorem isR_or_isI (a : EReal) : IsR a ∨ IsI a := by
  induction a with
  | bot => exact .inr (.inr rfl)
  | top => exact .inr (.inl rfl)
  | coe r => exact .inl ⟨r, rfl⟩

/-- Reals add to a real. -/
theorem IsR.add {a b : EReal} (ha : IsR a) (hb : IsR b) : IsR (a + b) := by
  obtain ⟨r, rfl⟩ := ha; obtain ⟨s, rfl⟩ := hb; exact ⟨r + s, (EReal.coe_add r s).symm⟩

/-- Reals subtract to a real. -/
theorem IsR.sub {a b : EReal} (ha : IsR a) (hb : IsR b) : IsR (a - b) := by
  obtain ⟨r, rfl⟩ := ha; obtain ⟨s, rfl⟩ := hb; exact ⟨r - s, (EReal.coe_sub r s).symm⟩

/-- Reals multiply to a real. -/
theorem IsR.mul {a b : EReal} (ha : IsR a) (hb : IsR b) : IsR (a * b) := by
  obtain ⟨r, rfl⟩ := ha; obtain ⟨s, rfl⟩ := hb; exact ⟨r * s, (EReal.coe_mul r s).symm⟩

/-- A sum of reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of reals is real. -/
theorem IsR.sum {ι : Type*} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

/-- An infinite summand makes the sum infinite. -/
theorem IsI.add_left {a b : EReal} (ha : IsI a) : IsI (a + b) := by
  rcases ha with rfl | rfl
  · induction b with
    | bot => exact .inr rfl
    | top => exact .inl rfl
    | coe r => exact .inl (EReal.top_add_coe r)
  · exact .inr (EReal.bot_add b)

/-- An infinite summand makes the sum infinite, from the right. -/
theorem IsI.add_right {a b : EReal} (hb : IsI b) : IsI (a + b) := add_comm b a ▸ hb.add_left

/-- The negative of an infinity is an infinity. -/
theorem IsI.neg {a : EReal} (ha : IsI a) : IsI (-a) := by
  rcases ha with rfl | rfl
  · exact .inr rfl
  · exact .inl rfl

/-- An infinite subtrahend makes the difference infinite. -/
theorem IsI.sub_right {a b : EReal} (hb : IsI b) : IsI (a - b) := by
  rw [sub_eq_add_neg]; exact hb.neg.add_right

/-- One infinite term makes a sum infinite. -/
theorem IsI.sum {ι : Type*} {s : Finset ι} {f : ι → EReal} {i : ι} (hi : i ∈ s) (h : IsI (f i)) : IsI (∑ i ∈ s, f i) := by
  classical
  rw [← Finset.add_sum_erase s f hi]; exact h.add_left

/-- An infinity times a nonzero real is infinite. -/
theorem IsI.mul_pos {a : EReal} (ha : IsI a) {r : ℝ} (hr : 0 < r) : IsI (a * (r : EReal)) := by
  rcases ha with rfl | rfl
  · exact .inl (EReal.top_mul_coe_of_pos hr)
  · exact .inr (EReal.bot_mul_coe_of_pos hr)

/-! ## The constants -/

/-- The norms' floor is a positive real. -/
theorem eps_real : ∃ e : ℝ, 0 < e ∧ eps = (e : EReal) := by
  refine ⟨9223372 * (1 / 9223372036854775808), by norm_num, ?_⟩
  simp [eps, Ideal.ofBits, Ideal.ieee]
  norm_num [← EReal.coe_mul]

/-- The kernel's factor is one sixteenth. -/
theorem sixteenth : Ideal.ofBits .f32 1031798784#32 = ((0.0625 : ℝ) : EReal) := by
  simp [Ideal.ofBits, Ideal.ieee]
  rw [← EReal.coe_mul]; norm_num

/-- The reference's divisor is sixteen. -/
theorem sixteen : Ideal.ofBits .f32 0x41800000#32 = ((16 : ℝ) : EReal) := by
  simp [Ideal.ofBits, Ideal.ieee]
  rw [← EReal.coe_mul]; norm_num

/-- The maximum's start is minus infinity. -/
theorem minusInf : Ideal.ofBits .f32 4286578688#32 = ⊥ := by
  simp [Ideal.ofBits, Ideal.ieee]

/-! ## Quotients and norms -/

/-- A real over a positive real is real. -/
theorem div_real {a : EReal} (ha : IsR a) {e : ℝ} (he : 0 < e) : IsR (Ideal.div a e) := by
  obtain ⟨r, rfl⟩ := ha
  have h : ¬ ((e : EReal) = 0) := by exact_mod_cast he.ne'
  exact ⟨r * e⁻¹, by simp only [Ideal.div, if_neg h, ← EReal.coe_inv, ← EReal.coe_mul]⟩

/-- A positive real over a positive real is a positive real. -/
theorem div_pos_real {r e : ℝ} (hr : 0 < r) (he : 0 < e) : ∃ q : ℝ, 0 < q ∧ Ideal.div (r : EReal) e = (q : EReal) := by
  have h : ¬ ((e : EReal) = 0) := by exact_mod_cast he.ne'
  exact ⟨r * e⁻¹, by positivity, by simp only [Ideal.div, if_neg h, ← EReal.coe_inv, ← EReal.coe_mul]⟩

/-- Anything over infinity is zero. -/
theorem div_top (a : EReal) : Ideal.div a ⊤ = 0 := by simp [Ideal.div]

/-- An infinity over a positive real is infinite. -/
theorem IsI.div {a : EReal} (ha : IsI a) {e : ℝ} (he : 0 < e) : IsI (Ideal.div a e) := by
  have h : ¬ ((e : EReal) = 0) := by exact_mod_cast he.ne'
  simp only [Ideal.div, if_neg h, ← EReal.coe_inv]
  exact ha.mul_pos (inv_pos.2 he)

/-- A square is not negative. -/
theorem sq_nonneg' (a : EReal) : 0 ≤ a * a := by
  induction a with
  | bot => simp
  | top => simp
  | coe r => rw [← EReal.coe_mul]; exact_mod_cast mul_self_nonneg r

/-- An infinite entry makes the length infinite. -/
theorem nrm_top {n : ℕ} {f : Fin n → EReal} {i : Fin n} (h : IsI (f i)) : nrm f = ⊤ := by
  have hs : ∑ i, f i * f i = ⊤ := by
    refine top_le_iff.1 (le_trans (le_of_eq ?_) (Finset.single_le_sum (f := fun i => f i * f i) (fun i _ => sq_nonneg' _) (Finset.mem_univ i)))
    rcases h with h | h <;> simp [h]
  rw [nrm, hs]; exact max_eq_left le_top

/-- The floor keeps a real length positive. -/
theorem floor_real {a : EReal} (h : IsR a) : ∃ r : ℝ, 0 < r ∧ max (Ideal.sqrt a) eps = (r : EReal) := by
  obtain ⟨a, rfl⟩ := h
  obtain ⟨e, he, h⟩ := eps_real
  have hs : Ideal.sqrt (a : EReal) = if a < 0 then ⊥ else (Real.sqrt a : EReal) := rfl
  rw [h, hs]
  by_cases hn : a < 0
  · exact ⟨e, he, by simp [hn]⟩
  · exact ⟨max (Real.sqrt a) e, lt_max_of_lt_right he, by
      rw [if_neg hn]; exact (EReal.coe_strictMono.monotone.map_max).symm⟩

/-- The norm of reals is a positive real. -/
theorem nrm_real {n : ℕ} {f : Fin n → EReal} (h : ∀ i, IsR (f i)) : ∃ r : ℝ, 0 < r ∧ nrm f = (r : EReal) :=
  floor_real (IsR.sum _ _ fun i => (h i).mul (h i))

/-- What is floored is positive. -/
theorem floor_pos (a : EReal) : 0 < max a eps := by
  obtain ⟨e, he, h⟩ := eps_real
  rw [h]; exact lt_max_of_lt_right (by exact_mod_cast he)

/-- A row with an infinite entry normalizes to zero. -/
theorem unit_zero {n : ℕ} {f : Fin n → EReal} {i : Fin n} (h : IsI (f i)) : unit f = fun _ => 0 :=
  funext fun j => by rw [unit, nrm_top h, div_top]

/-- Two rows with the same entries, or each with an infinite one, normalize alike. -/
theorem unit_eq {n : ℕ} {f g : Fin n → EReal} (h : (∀ i, f i = g i) ∨ ∃ i, IsI (f i) ∧ IsI (g i)) : unit f = unit g := by
  rcases h with h | ⟨i, hf, hg⟩
  · rw [funext h]
  · rw [unit_zero hf, unit_zero hg]

/-- Multiplying by the reciprocal of a floored number is dividing by it. -/
theorem mul_recip (y a : EReal) : y * Ideal.div 1 (max a eps) = Ideal.div y (max a eps) := by
  simp [Ideal.div, (floor_pos a).ne']

/-! ## The soft assignment is real and positive -/

section
variable {x : Fin 128 → Fin 1200 → EReal} {w c : Fin 64 → Fin 128 → EReal}

/-- A normalized pixel is real, whatever the pixel. -/
theorem xn_real (j : Fin 128) (p : Fin 1200) : IsR (xn x j p) := by
  by_cases h : ∀ i, IsR (x i p)
  · obtain ⟨r, hr, e⟩ := nrm_real h
    rw [xn, e]; exact div_real (h j) hr
  · obtain ⟨i, hi⟩ := not_forall.1 h
    have hI := (isR_or_isI (x i p)).resolve_left hi
    rw [xn, nrm_top (f := fun i => x i p) hI, div_top]; exact ⟨0, rfl⟩

/-- A maximum of reals is real, unless nothing is compared. -/
theorem fold_max_real {ι : Type*} (s : Finset ι) (f : ι → EReal) (h : ∀ i, IsR (f i)) :
    s = ∅ ∨ IsR (Finset.fold max ⊥ f s) := by
  classical
  induction s using Finset.induction_on with
  | empty => exact .inl rfl
  | insert a s ha ih =>
    right
    rw [Finset.fold_insert ha]
    rcases ih with rfl | ih
    · simpa using h a
    · rcases max_choice (f a) (Finset.fold max ⊥ f s) with e | e <;> rw [e]
      exacts [h a, ih]

/-- With real weights a logit is real. -/
theorem lg_real (hw : ∀ k j, IsR (w k j)) (k : Fin 64) (p : Fin 1200) : IsR (lg x w k p) :=
  IsR.sum _ _ fun j => (hw k j).mul (xn_real j p)

/-- With real weights an exponential is a positive real. -/
theorem ex_pos (hw : ∀ k j, IsR (w k j)) (k : Fin 64) (p : Fin 1200) : ∃ r : ℝ, 0 < r ∧ ex x w k p = (r : EReal) := by
  have ht : IsR (top x w p) := by
    rw [top, minusInf]
    exact (fold_max_real Finset.univ _ fun k => lg_real hw k p).resolve_left (Finset.univ_nonempty (α := Fin 64)).ne_empty
  obtain ⟨r, hr⟩ := (lg_real hw k p).sub ht
  exact ⟨Real.exp r, Real.exp_pos r, by rw [ex, hr]; rfl⟩

/-- A sum of positive reals is a positive real. -/
theorem sum_pos {ι : Type*} {s : Finset ι} (hs : s.Nonempty) (f : ι → EReal) (h : ∀ i, ∃ r : ℝ, 0 < r ∧ f i = (r : EReal)) :
    ∃ r : ℝ, 0 < r ∧ ∑ i ∈ s, f i = (r : EReal) := by
  choose g hg e using h
  exact ⟨∑ i ∈ s, g i, Finset.sum_pos (fun i _ => hg i) hs, by rw [coe_sum]; exact Finset.sum_congr rfl fun i _ => e i⟩

/-- With real weights a soft assignment is a positive real. -/
theorem sa_pos (hw : ∀ k j, IsR (w k j)) (k : Fin 64) (p : Fin 1200) : ∃ r : ℝ, 0 < r ∧ sa x w k p = (r : EReal) := by
  obtain ⟨a, ha, ea⟩ := ex_pos (x := x) hw k p
  obtain ⟨b, hb, eb⟩ := sum_pos (Finset.univ_nonempty (α := Fin 64)) _ fun i => ex_pos (x := x) hw i p
  rw [sa, ea, eb]; exact div_pos_real ha hb

end

/-! ## Sums over a product -/

/-- A sum over `m * n` places, `n` at a time. -/
theorem sum_split {M : Type*} [AddCommMonoid M] (m n : ℕ) {N : ℕ} (hN : m * n = N) (f : Fin N → M)
    (hb : ∀ (a : Fin m) (b : Fin n), a.val * n + b.val < N) :
    ∑ i, f i = ∑ a : Fin m, ∑ b : Fin n, f ⟨a.val * n + b.val, hb a b⟩ := by
  subst hN
  rw [← finProdFinEquiv.sum_comp, Fintype.sum_prod_type]
  refine Finset.sum_congr rfl fun a _ => Finset.sum_congr rfl fun b _ => congrArg f (Fin.ext ?_)
  simp [finProdFinEquiv, Nat.mul_comm, Nat.add_comm]

/-- The cluster of a row, from its cluster and channel. -/
theorem cluster_of (k : Fin 64) (j : Fin 128) (h : k.val * 128 + j.val < 8192) : cluster ⟨k.val * 128 + j.val, h⟩ = k :=
  Fin.ext (by show (k.val * 128 + j.val) / 128 = k.val; omega)

/-- The channel of a row, from its cluster and channel. -/
theorem channel_of (k : Fin 64) (j : Fin 128) (h : k.val * 128 + j.val < 8192) : channel ⟨k.val * 128 + j.val, h⟩ = j :=
  Fin.ext (by show (k.val * 128 + j.val) % 128 = j.val; omega)

/-- A sum over the rows of a descriptor, cluster by cluster. -/
theorem sum_rows (F : Fin 64 → Fin 128 → EReal) : ∑ R, F (cluster R) (channel R) = ∑ k, ∑ j, F k j := by
  rw [sum_split 64 128 rfl _ fun a b => by omega]
  simp only [cluster_of, channel_of]

/-! ## The global descriptor -/

section
variable {x : Fin 128 → Fin 1200 → EReal} {w c : Fin 64 → Fin 128 → EReal}

/-- An infinite centroid entry makes every residual there infinite. -/
theorem res_inf (hw : ∀ k j, IsR (w k j)) {k : Fin 64} {j : Fin 128} (h : IsI (c k j)) (p : Fin 1200) : IsI (res x w c k j p) := by
  obtain ⟨r, hr, e⟩ := sa_pos (x := x) hw k p
  rw [res, e]; exact h.sub_right.mul_pos hr

/-- At a real centroid entry the two global sums agree. -/
theorem gK_eq_gR (hw : ∀ k j, IsR (w k j)) {k : Fin 64} {j : Fin 128} (hc : IsR (c k j)) : gK x w c k j = gR x w c k j := by
  obtain ⟨C, hC⟩ := hc
  choose X hX using fun p => xn_real (x := x) j p
  choose S _ hS using fun p => sa_pos (x := x) hw k p
  have h : gR x w c k j = ∑ p, res x w c k j p :=
    (sum_split 30 40 rfl (res x w c k j) fun a b => (pix a b).isLt).symm
  simp only [h, gK, res, hC, hX, hS, ← EReal.coe_mul, ← EReal.coe_sub, ← coe_sum]
  rw [EReal.coe_eq_coe_iff, Finset.mul_sum, ← Finset.sum_sub_distrib]
  exact Finset.sum_congr rfl fun p _ => by ring

/-- Each row of the global descriptor normalizes alike. -/
theorem unit_g (hw : ∀ k j, IsR (w k j)) (k : Fin 64) : unit (gK x w c k) = unit (gR x w c k) := by
  refine unit_eq ?_
  by_cases hc : ∀ j, IsR (c k j)
  · exact .inl fun j => gK_eq_gR hw (hc j)
  · obtain ⟨j, hj⟩ := not_forall.1 hc
    have hI := (isR_or_isI (c k j)).resolve_left hj
    refine .inr ⟨j, ?_, IsI.sum (Finset.mem_univ 0) (IsI.sum (Finset.mem_univ 0) (res_inf hw hI _))⟩
    obtain ⟨r, hr, e⟩ := sum_pos (Finset.univ_nonempty (α := Fin 1200)) _ fun p => sa_pos (x := x) hw k p
    rw [gK, e]; exact (hI.mul_pos hr).sub_right

/-- The norm over all rows depends on the unit rows alone. -/
theorem total_congr {g g' : Fin 64 → Fin 128 → EReal} (h : ∀ k, unit (g k) = unit (g' k)) : total g = total g' := by
  simp only [total, h]

/-- The doubly normalised family depends on the unit rows alone. -/
theorem unit2_congr {g g' : Fin 64 → Fin 128 → EReal} (h : ∀ k, unit (g k) = unit (g' k)) : unit2 g = unit2 g' :=
  funext fun k => funext fun j => by rw [unit2, unit2, h, total_congr h]

end

/-! ## The local descriptors -/

/-- A row extended by zeros. -/
def ext {n : ℕ} (f : Fin n → ℝ) (a : ℕ) : ℝ := if h : a < n then f ⟨a, h⟩ else 0

/-- A finite sequence extended by zeros, at an index within. -/
theorem ext_coe {n : ℕ} (f : Fin n → ℝ) (a : Fin n) : ext f a.val = f a := dif_pos a.isLt

/-- A running sum of reals is the real running sum. -/
theorem pre_coe {n : ℕ} (f : Fin n → ℝ) (i : Fin n) :
    pre (fun a => (f a : EReal)) i = ((∑ a ∈ Finset.range (i.val + 1), ext f a : ℝ) : EReal) := by
  have h : ∀ a : Fin n, (if a.val ≤ i.val then (f a : EReal) else 0) = (((if a.val ≤ i.val then ext f a.val else 0) : ℝ) : EReal) := fun a => by
    rw [ext_coe]; split <;> rfl
  simp only [pre, h, ← coe_sum]
  rw [Fin.sum_univ_eq_sum_range (fun a => if a ≤ i.val then ext f a else 0) n, ← Finset.sum_filter]
  congr 2
  ext a
  simp only [Finset.mem_filter, Finset.mem_range]
  have := i.isLt
  omega

/-- A sum over a window as long as the row, ending at `v`, is the sum up to `v`. -/
theorem window_sum {n : ℕ} (f : Fin n → EReal) (v : Fin n) :
    (∑ b : Fin n, if h : n - 1 ≤ v.val + b.val then f ⟨v.val + b.val - (n - 1), by have := v.isLt; have := b.isLt; omega⟩ else 0) = pre f v := by
  have hv := v.isLt
  unfold pre
  refine Finset.sum_bij_ne_zero (fun b _ _ => ⟨v.val + b.val - (n - 1), by have := b.isLt; omega⟩) (fun _ _ _ => Finset.mem_univ _) ?_ ?_ ?_
  · intro a _ ha b _ hb e
    have h1 : n - 1 ≤ v.val + a.val := by by_contra h; exact ha (dif_neg h)
    have h2 : n - 1 ≤ v.val + b.val := by by_contra h; exact hb (dif_neg h)
    have := Fin.mk.inj e
    exact Fin.ext (by omega)
  · intro a _ ha
    have hle : a.val ≤ v.val := by by_contra h; exact ha (if_neg h)
    have hc : n - 1 ≤ v.val + (a.val + (n - 1) - v.val) := by omega
    have hx : (⟨v.val + (a.val + (n - 1) - v.val) - (n - 1), by omega⟩ : Fin n) = a := Fin.ext (by
      show v.val + (a.val + (n - 1) - v.val) - (n - 1) = a.val; omega)
    refine ⟨⟨a.val + (n - 1) - v.val, by omega⟩, Finset.mem_univ _, ?_, hx⟩
    rw [dif_pos hc, hx]
    rwa [if_pos hle] at ha
  · intro b _ hb
    have h1 : n - 1 ≤ v.val + b.val := by by_contra h; exact hb (dif_neg h)
    have := b.isLt
    rw [dif_pos h1, if_pos (by show v.val + b.val - (n - 1) ≤ v.val; omega)]

/-- An image extended by zeros. -/
def ext2 (r : Fin 30 → Fin 40 → ℝ) (a b : ℕ) : ℝ := ext (fun i => ext (r i) b) a

/-- The padded integral image of reals is a real partial sum. -/
theorem padded_coe (r : Fin 30 → Fin 40 → ℝ) (h : Fin 31) (v : Fin 41) :
    padded (fun a b => (r a b : EReal)) h v = ((∑ a ∈ Finset.range h.val, ∑ b ∈ Finset.range v.val, ext2 r a b : ℝ) : EReal) := by
  unfold padded
  split
  next hv =>
    simp only [integ, pre_coe]
    rw [show h.val - 1 + 1 = h.val by omega, show v.val - 1 + 1 = v.val by omega, EReal.coe_eq_coe_iff]
    refine Finset.sum_congr rfl fun a ha => ?_
    have : a < 30 := by have := Finset.mem_range.1 ha; have := h.isLt; omega
    simp only [ext2, ext, this, dif_pos]
  next hv =>
    rcases (by omega : h.val = 0 ∨ v.val = 0) with e | e <;> simp [e]

/-- The four corners of the integral image give the sum of the patch. -/
theorem corners_coe (r : Fin 30 → Fin 40 → ℝ) (h : Fin 27) (v : Fin 37) :
    corners (fun a b => (r a b : EReal)) h v = ((∑ i ∈ Finset.range 4, ∑ j ∈ Finset.range 4, ext2 r (h.val + i) (v.val + j) : ℝ) : EReal) := by
  simp only [corners, padded_coe, ← EReal.coe_sub, ← EReal.coe_add]
  rw [EReal.coe_eq_coe_iff, Nat.add_comm 4 h.val, Nat.add_comm 4 v.val]
  simp only [Finset.sum_range_add, Finset.sum_add_distrib]
  ring

/-- The kernel's patch sum of a real image. -/
theorem box4_coe (f : Fin 1200 → ℝ) (h : Fin 27) (v : Fin 37) :
    box4 (fun p => (f p : EReal)) (loc h v)
      = ((∑ i ∈ Finset.range 4, ∑ j ∈ Finset.range 4, ext f ((h.val + i) * 40 + (v.val + j)) : ℝ) : EReal) := by
  have := h.isLt
  have := v.isLt
  have hf : ∀ p : Fin 1200, f p = ext f p.val := fun p => (ext_coe f p).symm
  simp only [box4, ← EReal.coe_add, loc, Finset.sum_range_succ, Finset.sum_range_zero, zero_add, hf]
  rw [EReal.coe_eq_coe_iff]
  ring_nf

/-- A window sum of positive reals is a positive real. -/
theorem box4_pos (f : Fin 1200 → EReal) (q : Fin 1077) (h : ∀ p, ∃ r : ℝ, 0 < r ∧ f p = (r : EReal)) :
    ∃ r : ℝ, 0 < r ∧ box4 f q = (r : EReal) := by
  choose g hg e using h
  simp only [box4, e, ← EReal.coe_add]
  refine ⟨_, ?_, rfl⟩
  repeat' apply add_pos
  all_goals exact hg _

/-- An image extended by zeros, at a pixel within. -/
theorem ext2_pix (r : Fin 1200 → ℝ) {a b : ℕ} (ha : a < 30) (hb : b < 40) :
    ext2 (fun i j => r (pix i j)) a b = ext r (a * 40 + b) := by
  have : a * 40 + b < 1200 := by omega
  simp only [ext2, ext, ha, hb, this, dif_pos, pix]

section
variable {x : Fin 128 → Fin 1200 → EReal} {w c : Fin 64 → Fin 128 → EReal}

/-- At a real centroid row the kernel's window sums and the reference's corner differences agree. -/
theorem yK_eq_yR (hw : ∀ k j, IsR (w k j)) {k : Fin 64} {j : Fin 128} (hc : IsR (c k j)) (h : Fin 27) (v : Fin 37) :
    yK x w c k j (loc h v) = yR x w c k j h v := by
  obtain ⟨C, hC⟩ := hc
  choose X hX using fun p => xn_real (x := x) j p
  choose S _ hS using fun p => sa_pos (x := x) hw k p
  have hr : (fun a b => res x w c k j (pix a b)) = fun a b => (((fun p => (X p - C) * S p) (pix a b) : ℝ) : EReal) :=
    funext fun a => funext fun b => by simp only [res, hC, hX, hS, ← EReal.coe_mul, ← EReal.coe_sub]
  have h1 : (fun p => sa x w k p * xn x j p) = fun p => ((S p * X p : ℝ) : EReal) :=
    funext fun p => by rw [hS, hX, EReal.coe_mul]
  have h2 : sa x w k = fun p => ((S p : ℝ) : EReal) := funext hS
  have h16 : ¬ (((16 : ℝ) : EReal) = 0) := by norm_num
  rw [yK, yR, hr, corners_coe, h1, h2, box4_coe, box4_coe, hC, sixteenth, sixteen]
  simp only [Ideal.div, if_neg h16, ← EReal.coe_inv, ← EReal.coe_mul, ← EReal.coe_sub]
  rw [EReal.coe_eq_coe_iff, show (0.0625 : ℝ) = 16⁻¹ by norm_num, Finset.mul_sum, ← Finset.sum_sub_distrib]
  congr 1
  refine Finset.sum_congr rfl fun a ha => ?_
  rw [Finset.mul_sum, ← Finset.sum_sub_distrib]
  refine Finset.sum_congr rfl fun b hb => ?_
  have := Finset.mem_range.1 ha
  have := Finset.mem_range.1 hb
  have := h.isLt
  have := v.isLt
  rw [ext2_pix (fun p => (X p - C) * S p) (by omega) (by omega)]
  have : (h.val + a) * 40 + (v.val + b) < 1200 := by omega
  simp only [ext, this, dif_pos]
  ring

/-- Each row of the local descriptor at a patch normalizes alike. -/
theorem unit_y (hw : ∀ k j, IsR (w k j)) (k : Fin 64) (h : Fin 27) (v : Fin 37) :
    unit (fun j => yK x w c k j (loc h v)) = unit (fun j => yR x w c k j h v) := by
  refine unit_eq ?_
  by_cases hc : ∀ j, IsR (c k j)
  · exact .inl fun j => yK_eq_yR hw (hc j) h v
  · obtain ⟨j, hj⟩ := not_forall.1 hc
    have hI := (isR_or_isI (c k j)).resolve_left hj
    refine .inr ⟨j, ?_, ?_⟩
    · obtain ⟨r, hr, e⟩ := box4_pos (sa x w k) (loc h v) fun p => sa_pos (x := x) hw k p
      simp only [yK, e, sixteenth]
      exact IsI.mul_pos (hI.mul_pos hr).sub_right (by norm_num)
    · simp only [yR, sixteen]
      refine IsI.div ?_ (by norm_num)
      refine IsI.add_right ?_
      have hp : ∀ {n : ℕ} (f : Fin (n + 1) → EReal) (i : Fin (n + 1)), IsI (f 0) → IsI (pre f i) := fun f i hf =>
        IsI.sum (Finset.mem_univ 0) (by simpa using hf)
      rw [padded, dif_pos ⟨by simp only; omega, by simp only; omega⟩]
      exact hp _ _ (hp _ _ (res_inf hw hI _))

end

end Cert.Vlad

end
-- ==== Proof.KVal.lean ====
/- What the kernel's operations leave on one image and one chunk, entry by entry. -/
module

public import proofs.«01_k».proof.Proof.State
public import proofs.«01_k».proof.Proof.Maths
public import Idealize.ShloMosaic.Lib.Pointwise
@[expose] public section
set_option maxRecDepth 16384
noncomputable section
namespace Cert.KernelIdeal.Val
open Cert.KernelIdeal Cert.KernelIdeal.Gen Cert.KernelIdeal.Body Cert.Vlad Idealize.ShloMosaic Idealize.ShloMosaic.TcCoe Idealize.SL.Sem
open Idealize.ShloMosaic.Pointwise

/-- A block of one image, as a family of channels. -/
def im (v : FVec Ideal S1x128x1200 .f32) : Fin 128 → Fin 1200 → EReal := fun j p => v (ix3 0 j p)
/-- A table of the clusters' rows. -/
def tb (v : FVec Ideal S64x128 .f32) : Fin 64 → Fin 128 → EReal := fun k j => v (ix2 k j)

/-- The set-up normalises every pixel over the channels. -/
theorem pay6_at (v : FVec Ideal S1x128x1200 .f32) (j : Fin 128) (p : Fin 1200) :
    k0_pay6 (F := Ideal) v (ix2 j p) = xn (im v) j p := by
  pointwise [k0_pay6]
  rfl
/-- The normalised pixels, as stored. -/
theorem pay7_at (v : FVec Ideal S1x128x1200 .f32) (j : Fin 128) (p : Fin 1200) :
    k0_pay7 (F := Ideal) v (ix2 j p) = xn (im v) j p := by
  rw [← pay6_at]
  pointwise [k0_pay7]
/-- The set-up's soft assignment. -/
theorem pay8_at (v : FVec Ideal S1x128x1200 .f32) (w : FVec Ideal S64x128 .f32) (k : Fin 64) (p : Fin 1200) :
    k0_pay8 (F := Ideal) v w (ix2 k p) = sa (im v) (tb w) k p := by
  pointwise [k0_pay8]
  simp only [pay6_at]
  rfl
/-- The soft assignment, as stored in chunks of four clusters. -/
theorem pay9_at (v : FVec Ideal S1x128x1200 .f32) (w : FVec Ideal S64x128 .f32) (a : Fin 16) (b : Fin 4) (p : Fin 1200) :
    k0_pay9 (F := Ideal) v w (ix3 a b p) = sa (im v) (tb w) ⟨a.val * 4 + b.val, by omega⟩ p := by
  rw [← pay8_at]
  pointwise [k0_pay9]
/-- The soft assignment summed over every window, as stored in chunks of four clusters. -/
theorem pay10_at (v : FVec Ideal S1x128x1200 .f32) (w : FVec Ideal S64x128 .f32) (a : Fin 16) (b : Fin 4) (p : Fin 1077) :
    k0_pay1 (k0_pay10 (F := Ideal) v w) (ix3 a b p) = box4 (sa (im v) (tb w) ⟨a.val * 4 + b.val, by omega⟩) p := by
  pointwise [k0_pay1, k0_pay10]
  simp only [pay8_at]
  rfl
/-- The global descriptor of one image, from its normalised pixels and its soft assignment. -/
theorem pay2_at (v18 : FVec Ideal S128x1200 .f32) (v32 : FVec Ideal S64x1200 .f32) (v56 : FVec Ideal S64x128 .f32) (R : Fin 8192) :
    k0_pay2 (F := Ideal) v18 v32 v56 (ix3 0 0 R) = unit2 (fun k j => ∑ p, v32 (ix2 k p) * v18 (ix2 j p) - v56 (ix2 k j) * ∑ p, v32 (ix2 k p))
      ⟨R.val / 128, by omega⟩ ⟨R.val % 128, by omega⟩ := by
  pointwise [k0_pay2]
  rfl

/-- A slab of the assignments, entry by entry. -/
theorem slabA_at (X : FVec Ideal S16x4x1200 .f32) (j : Fin 16) (b : Fin 4) (p : Fin 1200) : slabA (F := Ideal) X j (ix3 0 b p) = X (ix3 j b p) := by
  refine congrArg X (funext fun a => Fin.ext ?_)
  fin_cases a <;> simp [ix3]

/-- A slab of the pooled assignments, entry by entry. -/
theorem slabV_at (X : FVec Ideal S16x4x1077 .f32) (j : Fin 16) (b : Fin 4) (p : Fin 1077) : slabV (F := Ideal) X j (ix3 0 b p) = X (ix3 j b p) := by
  refine congrArg X (funext fun a => Fin.ext ?_)
  fin_cases a <;> simp [ix3]

/-- The chunk that a computing step stores, entry by entry. -/
theorem pay11_at (v10 : FVec Ideal S1x4x1200 .f32) (v12 : FVec Ideal S128x1200 .f32) (v32 : FVec Ideal S1x4x128 .f32) (v35 : FVec Ideal S1x4x1077 .f32)
    (b : Fin 4) (j : Fin 128) (q : Fin 1077) :
    k0_pay11 (F := Ideal) v10 v12 v32 v35 (ix2 ⟨b.val * 128 + j.val, by omega⟩ q)
      = unit (fun j => (box4 (fun p => v10 (ix3 0 b p) * v12 (ix2 j p)) q - v32 (ix3 0 b j) * v35 (ix3 0 b q)) * Ideal.ofBits .f32 1031798784#32) j := by
  pointwise [k0_pay11]
  rfl

/-- The chunk with its leading axis, entry by entry. -/
theorem pay3_at (y : FVec Ideal S512x1077 .f32) (R : Fin 512) (q : Fin 1077) : k0_pay3 (F := Ideal) y (ix3 0 R q) = y (ix2 R q) := by
  pointwise [k0_pay3]

/-- What a scaling step writes: the chunk's entry at the window's place, times the reciprocal norm. -/
theorem pay5_at (T : FVec Ideal S1x1077 .f32) (y : FVec Ideal S1x512x1077 .f32) (R : Fin 512) (h : Fin 27) (v : Fin 37) :
    k0_pay5 (F := Ideal) T y (ix3 0 R ⟨h.val * 37 + v.val, by omega⟩)
      = Ideal.div (y (ix3 0 R (loc h v))) (max (Ideal.sqrt (T (ix2 0 (loc h v)))) eps) := by
  pointwise [k0_pay5]
  rw [dif_pos (by omega)]
  exact mul_recip _ _

/-- A chunk's contribution to the squared norm of a window. -/
theorem rowsq_at (y : FVec Ideal S512x1077 .f32) (q : Fin 1077) : rowsq (F := Ideal) y (ix2 0 q) = ∑ R, y (ix2 R q) * y (ix2 R q) := by
  pointwise [rowsq]

/-! ## The blocks of the launch -/

variable (m : (ℓ : Loc nD τ sig) → Buf (Elt Ideal) ℓ) (c : Dev nD)

/-- The batch as launched. -/
def argX : Fin 4 → Fin 128 → Fin 30 → Fin 40 → EReal := fun n j h v =>
  (m ((c : Thread nD τ).loc main_arg0) : FVec Ideal S4x128x30x40 .f32) (ix4 n j h v)
/-- The weights as launched. -/
def argW : Fin 64 → Fin 128 → EReal := fun k j => (m ((c : Thread nD τ).loc main_arg1) : FVec Ideal S64x128 .f32) (ix2 k j)
/-- The centroids as launched. -/
def argC : Fin 64 → Fin 128 → EReal := fun k j => (m ((c : Thread nD τ).loc main_arg2) : FVec Ideal S64x128 .f32) (ix2 k j)

/-- The block of an image is the image. -/
theorem im_X0 (n : Fin 4) : im (X0 m c n) = image (argX m c) n := by
  funext j p
  show (V m c main_v0 : Vec Ideal S4x128x1200 .f32) (ix3 n j p) = _
  entry_read
  pointwise
  rfl

/-- The block of the weights is the weights. -/
theorem tb_Wt : tb (Wt m c) = argW m c := by
  funext k j
  show (V m c main_arg1 : Vec Ideal S64x128 .f32) (ix2 k j) = _
  rw [V_main_arg1]; rfl

/-- The block of the centroids is the centroids. -/
theorem tb_Ct : tb (Ct m c) = argC m c := by
  funext k j
  show (V m c main_arg2 : Vec Ideal S64x128 .f32) (ix2 k j) = _
  rw [V_main_arg2]; rfl

/-- A chunk of the centroids is its four rows. -/
theorem CH_at (a : Fin 16) (b : Fin 4) (j : Fin 128) : CH m c a (ix3 0 b j) = argC m c ⟨a.val * 4 + b.val, by omega⟩ j := by
  show (V m c main_v1 : Vec Ideal S16x4x128 .f32) (ix3 a b j) = _
  entry_read
  pointwise
  rfl

/-- The local descriptors of a chunk: each row of the patch means, normalized. -/
theorem Yd_at (n : Fin 4) (a : Fin 16) (b : Fin 4) (j : Fin 128) (q : Fin 1077) :
    Yd m c n a (ix2 ⟨b.val * 128 + j.val, by omega⟩ q)
      = unit (fun j => yK (image (argX m c) n) (argW m c) (argC m c) ⟨a.val * 4 + b.val, by omega⟩ j q) j := by
  unfold Yd yOf
  rw [pay11_at]
  simp only [slabA_at, slabV_at, SA, SV, XN, pay9_at, pay10_at, pay7_at, im_X0, tb_Wt, CH_at]
  rfl

/-- A chunk's share of the sum of squares. -/
theorem rowsq_Yd (n : Fin 4) (a : Fin 16) (q : Fin 1077) :
    rowsq (Yd m c n a) (ix2 0 q)
      = ∑ b : Fin 4, ∑ j, unit (fun j => yK (image (argX m c) n) (argW m c) (argC m c) ⟨a.val * 4 + b.val, by omega⟩ j q) j
          * unit (fun j => yK (image (argX m c) n) (argW m c) (argC m c) ⟨a.val * 4 + b.val, by omega⟩ j q) j := by
  rw [rowsq_at, sum_split 4 128 rfl _ fun b j => by omega]
  simp only [Yd_at]

/-- The squared norm after some chunks is the sum over their rows. -/
theorem Tsq_at (n : Fin 4) (k : ℕ) (q : Fin 1077) :
    Tsq m c n k (ix2 0 q) = ∑ a ∈ Finset.range (k + 1), rowsq (Yd m c n (chk a)) (ix2 0 q) := by
  induction k with
  | zero =>
    rw [Finset.sum_range_one]
    show Ideal.ofBits .f32 0x00000000#32 + _ = _
    rw [Ideal.ofBits_zero_f32, zero_add]; rfl
  | succ k ih => rw [Finset.sum_range_succ, ← ih]; rfl

/-- The sixteen chunks together: the sum of every squared entry. -/
theorem Tsq_total (n : Fin 4) (q : Fin 1077) :
    max (Ideal.sqrt (Tsq m c n 15 (ix2 0 q))) eps = total fun k j => yK (image (argX m c) n) (argW m c) (argC m c) k j q := by
  rw [Tsq_at, total, sum_split 16 4 rfl _ fun a b => by omega, Finset.sum_range]
  have : ∀ a : Fin 16, chk a.val = a := fun a => Fin.ext (Nat.mod_eq_of_lt a.isLt)
  simp only [this, rowsq_Yd]

/-- The block of the local descriptors. -/
theorem Lout_at (n : Fin 4) (a : Fin 16) (b : Fin 4) (j : Fin 128) (h : Fin 27) (v : Fin 37) :
    Lout m c n a (ix3 0 ⟨b.val * 128 + j.val, by omega⟩ ⟨h.val * 37 + v.val, by omega⟩)
      = unit2 (fun k j => yK (image (argX m c) n) (argW m c) (argC m c) k j (loc h v)) ⟨a.val * 4 + b.val, by omega⟩ j := by
  unfold Lout
  rw [pay5_at, pay3_at, Yd_at, Tsq_total]; rfl

/-- The block of the global descriptor. -/
theorem Gout_at (n : Fin 4) (R : Fin 8192) :
    Gout m c n (ix3 0 0 R) = unit2 (gK (image (argX m c) n) (argW m c) (argC m c)) (cluster R) (channel R) := by
  unfold Gout
  rw [pay2_at]
  simp only [pay6_at, pay8_at, im_X0, tb_Wt]
  have : ∀ k j, Ct m c (ix2 k j) = argC m c k j := fun k j => congrFun (congrFun (tb_Ct m c) k) j
  simp only [this]
  rfl

end Cert.KernelIdeal.Val
end
-- ==== Proof.KArr.lean ====
/- The two arrays the kernel leaves, entry by entry. -/
module

public import proofs.«01_k».proof.Proof.KVal
public import proofs.«01_k».proof.Proof.Run

@[expose] public section

set_option maxRecDepth 16384

noncomputable section

namespace Cert.KernelIdeal.Val

open Cert.KernelIdeal Cert.KernelIdeal.Gen Cert.KernelIdeal.Body Cert.Vlad Idealize.ShloMosaic Idealize.ShloMosaic.TcCoe Idealize.SL.Sem
open Idealize.ShloMosaic.Pointwise

variable (m : (ℓ : Loc nD τ sig) → Buf (Elt Ideal) ℓ) (c : Dev nD)

/-- The block of the global descriptors at a step is that of its image. -/
theorem index4 (t : Fin cfg0.N) : win0_4.index t = ![(img t.val).val, 0, 0] :=
  (by decide +kernel : ∀ t : Fin grid0.N, win0_4.index t = ![(img t.val).val, 0, 0]) t
/-- The block of the local descriptors written back at a step is that of its image and chunk. -/
theorem index5 (t : Fin cfg0.N) (h : (cfg0.win 5).flush t = true) : win0_5.index t = ![(img t.val).val, (chk t.val).val, 0] :=
  (by decide +kernel : ∀ t : Fin grid0.N, (cfg0.win 5).flush t = true → win0_5.index t = ![(img t.val).val, (chk t.val).val, 0]) t h

/-- The global descriptors the kernel leaves. -/
def global : FVec Ideal S4x1x8192 .f32 := fun i =>
  unit2 (gK (image (argX m c) (i 0)) (argW m c) (argC m c)) (cluster (i 2)) (channel (i 2))

/-- The local descriptors the kernel leaves. -/
def localD : FVec Ideal S4x8192x999 .f32 := fun i =>
  unit2 (fun k j => yK (image (argX m c) (i 0)) (argW m c) (argC m c) k j (loc (prow (i 2)) (pcol (i 2)))) (cluster (i 1)) (channel (i 1))

/-- One image's block of global descriptors is its part of the array. -/
theorem Gout_idx (n : Fin 4) (y : S1x1x8192.Idx) (i : S4x1x8192.Idx) (h0 : (i 0).val = n.val) (h2 : (i 2).val = (y 2).val) :
    Gout m c n y = global m c i := by
  have e0 : i 0 = n := Fin.ext h0
  have e2 : i 2 = y 2 := Fin.ext h2
  have ey : y = ix3 0 0 (y 2) := by
    funext a; fin_cases a
    exacts [Fin.ext (by have : (y 0).val < 1 := (y 0).isLt; show (y 0).val = 0; omega), Fin.ext (by have : (y 1).val < 1 := (y 1).isLt; show (y 1).val = 0; omega), rfl]
  rw [ey]
  refine (Gout_at m c n (y 2)).trans ?_
  unfold global
  rw [e0, e2]

/-- One chunk's block of local descriptors is its part of the array. -/
theorem Lout_idx (n : Fin 4) (a : Fin 16) (y : S1x512x999.Idx) (i : S4x8192x999.Idx) (h0 : (i 0).val = n.val)
    (h1 : (i 1).val = a.val * 512 + (y 1).val) (h2 : (i 2).val = (y 2).val) :
    Lout m c n a y = localD m c i := by
  have l1 : (y 1).val < 512 := (y 1).isLt
  have l2 : (y 2).val < 999 := (y 2).isLt
  have e0 : i 0 = n := Fin.ext h0
  have e2 : i 2 = y 2 := Fin.ext h2
  have ey : y = ix3 0 (⟨(y 1).val / 128 * 128 + (y 1).val % 128, by omega⟩ : Fin 512) (⟨(y 2).val / 37 * 37 + (y 2).val % 37, by omega⟩ : Fin 999) := by
    funext a; fin_cases a
    · exact Fin.ext (by have : (y 0).val < 1 := (y 0).isLt; show (y 0).val = 0; omega)
    · exact Fin.ext (by show (y 1).val = (y 1).val / 128 * 128 + (y 1).val % 128; omega)
    · exact Fin.ext (by show (y 2).val = (y 2).val / 37 * 37 + (y 2).val % 37; omega)
  have ek : (⟨a.val * 4 + (y 1).val / 128, by omega⟩ : Fin 64) = cluster (i 1) := Fin.ext (by
    show a.val * 4 + (y 1).val / 128 = (i 1).val / 128; omega)
  have ej : (⟨(y 1).val % 128, by omega⟩ : Fin 128) = channel (i 1) := Fin.ext (by
    show (y 1).val % 128 = (i 1).val % 128; omega)
  rw [ey]
  refine (Lout_at m c n a ⟨(y 1).val / 128, by omega⟩ ⟨(y 1).val % 128, by omega⟩ (prow (y 2)) (pcol (y 2))).trans ?_
  unfold localD
  rw [e0, e2, ← ek, ← ej]

/-- The first result array ends as the global descriptors. -/
theorem final4 : (dats m 0 c).arrAt 4 (cfgs 0).N = global m c := by
  refine (dats m 0 c).arrAt_eq_of_covers 4 _ (by decide +kernel) fun t hf y => ?_
  blk_simp
  rw [after4]
  refine Gout_idx m c _ _ _ ?_ ?_
  · blk_simp [index4 t]
  · blk_simp [index4 t]

/-- The second result array ends as the local descriptors. -/
theorem final5 : (dats m 0 c).arrAt 5 (cfgs 0).N = localD m c := by
  refine (dats m 0 c).arrAt_eq_of_covers 5 _ (by decide +kernel) fun t hf y => ?_
  blk_simp
  rw [after5]
  refine Lout_idx m c _ _ _ _ ?_ ?_ ?_
  · blk_simp [index5 t hf]
  · blk_simp [index5 t hf]
  · blk_simp [index5 t hf]

end Cert.KernelIdeal.Val

end
-- ==== Proof.RVal.lean ====
/- What the reference computes, entry by entry. -/
module

public import proofs.«01_k».proof.Proof.Maths
public import proofs.«01_k».proof.Proof.Gen.ReferenceIdeal.Read
public import Idealize.ShloMosaic.Lib.Pointwise
public import Idealize.ShloMosaic.Lib.KernelVsHost

@[expose] public section

set_option maxRecDepth 16384

noncomputable section

namespace Cert.ReferenceIdeal.Val

open Cert.ReferenceIdeal Cert.ReferenceIdeal.Gen Cert.ReferenceIdeal.Read Cert.Vlad Idealize.ShloMosaic Idealize.ShloMosaic.TcCoe Idealize.SL.Sem
open Idealize.ShloMosaic.Pointwise

variable (X : FVec Ideal S4x128x30x40 .f32) (W C : FVec Ideal S64x128 .f32)

/-- The batch by its coordinates. -/
def argX : Fin 4 → Fin 128 → Fin 30 → Fin 40 → EReal := fun n j h v => X (ix4 n j h v)
/-- A table of the clusters' rows. -/
def tb : Fin 64 → Fin 128 → EReal := fun k j => W (ix2 k j)

/-- An image at a pixel is the batch at its coordinates. -/
theorem image_pix (n : Fin 4) (j : Fin 128) (h : Fin 30) (v : Fin 40) : image (argX X) n j (pix h v) = X (ix4 n j h v) := by
  have e1 : (⟨(h.val * 40 + v.val) / 40, by omega⟩ : Fin 30) = h := Fin.ext (by show (h.val * 40 + v.val) / 40 = h.val; omega)
  have e2 : (⟨(h.val * 40 + v.val) % 40, by omega⟩ : Fin 40) = v := Fin.ext (by show (h.val * 40 + v.val) % 40 = v.val; omega)
  show X (ix4 n j ⟨(h.val * 40 + v.val) / 40, by omega⟩ ⟨(h.val * 40 + v.val) % 40, by omega⟩) = _
  rw [e1, e2]

/-- The normalised pixels. -/
theorem v4_at (n : Fin 4) (j : Fin 128) (h : Fin 30) (v : Fin 40) :
    val_main_v4 (F := Ideal) X (ix4 n j h v) = xn (image (argX X) n) j (pix h v) := by
  simp only [xn, nrm, image_pix]
  pointwise [val_main_v4, val_main_v3, val_main_v2, val_main_v1, val_main_v0, val_main_cst, val_main_call0_v2, val_main_call0_v1, val_main_call0_v0, val_main_call0_cst]
  rfl

/-- The logits. -/
theorem v6_at (n : Fin 4) (k : Fin 64) (h : Fin 30) (v : Fin 40) :
    val_main_v6 (F := Ideal) X W (ix4 n k h v) = lg (image (argX X) n) (tb W) k (pix h v) := by
  simp only [lg, ← v4_at]
  pointwise [val_main_v6, val_main_v5]
  exact Finset.sum_congr rfl fun _ _ => mul_comm _ _

/-- The largest logit of a pixel. -/
theorem v7_at (n : Fin 4) (h : Fin 30) (v : Fin 40) :
    val_main_v7 (F := Ideal) X W (ix3 n h v) = top (image (argX X) n) (tb W) (pix h v) := by
  simp only [top, ← v6_at]
  pointwise [val_main_v7, val_main_cst_0]

/-- The exponentials. -/
theorem v13_at (n : Fin 4) (k : Fin 64) (h : Fin 30) (v : Fin 40) :
    val_main_v13 (F := Ideal) X W (ix4 n k h v) = ex (image (argX X) n) (tb W) k (pix h v) := by
  simp only [ex, ← v6_at, ← v7_at]
  pointwise [val_main_v13, val_main_v12, val_main_v11, val_main_v10, val_main_v9, val_main_v8, val_main_cst_1]
  rw [minusInf, max_eq_right bot_le]

/-- The soft assignment. -/
theorem v17_at (n : Fin 4) (k : Fin 64) (h : Fin 30) (v : Fin 40) :
    val_main_v17 (F := Ideal) X W (ix4 n k h v) = sa (image (argX X) n) (tb W) k (pix h v) := by
  simp only [sa, ← v13_at]
  pointwise [val_main_v17, val_main_v16, val_main_v15, val_main_v14, val_main_cst_2]

/-- The weighted residuals. -/
theorem v25_at (n : Fin 4) (k : Fin 64) (j : Fin 128) (h : Fin 30) (v : Fin 40) :
    val_main_v25 (F := Ideal) X W C (ix5 n k j h v) = res (image (argX X) n) (tb W) (tb C) k j (pix h v) := by
  simp only [res, ← v17_at, ← v4_at]
  pointwise [val_main_v25, val_main_v24, val_main_v23, val_main_v22, val_main_v21, val_main_v20, val_main_v19, val_main_v18]
  rfl

/-- A sum over the last two axes. -/
theorem sum_last_two (x : S4x64x128x30x40.Idx → EReal) (e : EReal) (n : Fin 4) (k : Fin 64) (j : Fin 128) :
    Ideal.hostReduceAdd reducesTo_S4x64x128x30x40_S4x64x128_d4_3 x e (ix3 n k j) = e + ∑ h, ∑ v, x (ix5 n k j h v) := by
  unfold Ideal.hostReduceAdd
  rw [← Fintype.sum_prod_type']
  congr 1
  symm
  refine Finset.sum_bij' (fun p _ => ix5 n k j p.1 p.2) (fun i _ => (i 3, i 4)) (fun p _ => ?_) (fun i _ => Finset.mem_univ _) (fun p _ => rfl) (fun i hi => ?_) (fun p _ => rfl)
  · refine Finset.mem_filter.2 ⟨Finset.mem_univ _, funext fun a => ?_⟩
    fin_cases a <;> rfl
  · have e := (Finset.mem_filter.1 hi).2
    funext a
    fin_cases a
    · exact (congrFun e 0).symm
    · exact (congrFun e 1).symm
    · exact (congrFun e 2).symm
    · rfl
    · rfl

/-- The residuals summed over the pixels. -/
theorem v26_at (n : Fin 4) (k : Fin 64) (j : Fin 128) :
    val_main_v26 (F := Ideal) X W C (ix3 n k j) = gR (image (argX X) n) (tb W) (tb C) k j := by
  simp only [gR, ← v25_at]
  pointwise [val_main_v26, val_main_cst_3]
  exact (sum_last_two _ _ _ _ _).trans (zero_add _)

/-- A left fold of additions is a sum. -/
theorem foldl_sum {ι : Type*} (g : ι → EReal) (l : List ι) (a : EReal) : l.foldl (fun r n => r + g n) a = a + (l.map g).sum := by
  induction l generalizing a with
  | nil => simp
  | cons b l ih => rw [List.foldl_cons, ih, List.map_cons, List.sum_cons, add_assoc]

/-- The host's window sum from zero: the sum over the window's places, a place in the padding counting for nothing. -/
theorem reduceWindow_sum {s t : Shape} (window strides lo hi : Fin s.rank → Nat) (h : s.ReduceWindows window strides lo hi t)
    (x : s.Idx → EReal) (j : t.Idx) :
    Ideal.hostReduceWindowAdd window strides lo hi h x 0 j
      = ∑ k : (⟨s.rank, window⟩ : Shape).Idx, if hin : ∀ a, lo a ≤ (j (a.cast h.1.symm)).val * strides a + (k a).val
          ∧ (j (a.cast h.1.symm)).val * strides a + (k a).val - lo a < s.size a
        then x (fun a => ⟨(j (a.cast h.1.symm)).val * strides a + (k a).val - lo a, (hin a).2⟩) else 0 := by
  unfold Ideal.hostReduceWindowAdd Host.reduceWindow
  rw [← (⟨s.rank, window⟩ : Shape).rowMajor.symm.sum_comp, Fin.sum_univ_def]
  refine (foldl_sum _ _ _).trans ?_
  beta_reduce
  rw [zero_add]
  exact congrArg List.sum (List.map_congr_left fun n _ => dite_congr rfl (fun _ => rfl) fun _ => rfl)

/-- The residuals by row and pixel. -/
theorem v38_at (n : Fin 4) (R : Fin 8192) (h : Fin 30) (v : Fin 40) :
    val_main_v38 (F := Ideal) X W C (ix4 n R h v) = res (image (argX X) n) (tb W) (tb C) (cluster R) (channel R) (pix h v) := by
  rw [← v25_at]
  pointwise [val_main_v38]
  rfl

/-- The running sums along a line. -/
theorem v39_at (n : Fin 4) (R : Fin 8192) (h : Fin 30) (v : Fin 40) :
    val_main_v39 (F := Ideal) X W C (ix4 n R h v) = pre (fun v => val_main_v38 (F := Ideal) X W C (ix4 n R h v)) v := by
  have hz : val_main_call3_call0_v0 (F := Ideal) (Shape.Idx.first h_S_) = 0 := by
    pointwise [val_main_call3_call0_v0, val_main_call3_call0_cst]
  show Ideal.hostReduceWindowAdd ![1, 1, 1, 40] ![1, 1, 1, 1] ![0, 0, 0, 39] ![0, 0, 0, 0] reduceWindows_S4x8192x30x40_S4x8192x30x40_w1s1p0_0_w1s1p0_0_w1s1p0_0_w40s1p39_0 (val_main_v38 (F := Ideal) X W C) (val_main_call3_call0_v0 (F := Ideal) (Shape.Idx.first h_S_)) (ix4 n R h v) = _
  rw [hz, reduceWindow_sum, ← window_sum]
  symm
  refine Fintype.sum_bijective (fun b : Fin 40 => (ix4 0 0 0 b : (⟨4, ![1, 1, 1, 40]⟩ : Shape).Idx)) ?_ _ _ fun b => ?_
  · refine ⟨fun a b e => congrFun e 3, fun k => ⟨k 3, funext fun a => ?_⟩⟩
    fin_cases a
    · exact Subsingleton.elim (α := Fin 1) _ _
    · exact Subsingleton.elim (α := Fin 1) _ _
    · exact Subsingleton.elim (α := Fin 1) _ _
    · rfl
  · by_cases hb : 39 ≤ v.val + b.val
    · rw [dif_pos hb, dif_pos ?_]
      · refine congrArg (val_main_v38 (F := Ideal) X W C) (funext fun a => Fin.ext ?_)
        fin_cases a <;> simp [ix4]
      · intro a
        fin_cases a <;> simp [ix4, S4x8192x30x40] <;> omega
    · rw [dif_neg hb, dif_neg ?_]
      intro hin
      have := (hin 3).1
      simp [ix4] at this
      omega

/-- The running sums of those along a column: the integral image. -/
theorem v40_at (n : Fin 4) (R : Fin 8192) (h : Fin 30) (v : Fin 40) :
    val_main_v40 (F := Ideal) X W C (ix4 n R h v) = pre (fun h => val_main_v39 (F := Ideal) X W C (ix4 n R h v)) h := by
  have hz : val_main_call4_call0_v0 (F := Ideal) (Shape.Idx.first h_S_) = 0 := by
    pointwise [val_main_call4_call0_v0, val_main_call4_call0_cst]
  show Ideal.hostReduceWindowAdd ![1, 1, 30, 1] ![1, 1, 1, 1] ![0, 0, 29, 0] ![0, 0, 0, 0] reduceWindows_S4x8192x30x40_S4x8192x30x40_w1s1p0_0_w1s1p0_0_w30s1p29_0_w1s1p0_0 (val_main_v39 (F := Ideal) X W C) (val_main_call4_call0_v0 (F := Ideal) (Shape.Idx.first h_S_)) (ix4 n R h v) = _
  rw [hz, reduceWindow_sum, ← window_sum]
  symm
  refine Fintype.sum_bijective (fun b : Fin 30 => (ix4 0 0 b 0 : (⟨4, ![1, 1, 30, 1]⟩ : Shape).Idx)) ?_ _ _ fun b => ?_
  · refine ⟨fun a b e => congrFun e 2, fun k => ⟨k 2, funext fun a => ?_⟩⟩
    fin_cases a
    · exact Subsingleton.elim (α := Fin 1) _ _
    · exact Subsingleton.elim (α := Fin 1) _ _
    · rfl
    · exact Subsingleton.elim (α := Fin 1) _ _
  · by_cases hb : 29 ≤ h.val + b.val
    · rw [dif_pos hb, dif_pos ?_]
      · refine congrArg (val_main_v39 (F := Ideal) X W C) (funext fun a => Fin.ext ?_)
        fin_cases a <;> simp [ix4]
      · intro a
        fin_cases a <;> simp [ix4, S4x8192x30x40] <;> omega
    · rw [dif_neg hb, dif_neg ?_]
      intro hin
      have := (hin 2).1
      simp [ix4] at this
      omega

/-- The integral image with its border of zeros. -/
theorem v41_at (n : Fin 4) (R : Fin 8192) (h : Fin 31) (v : Fin 41) :
    val_main_v41 (F := Ideal) X W C (ix4 n R h v)
      = padded (fun a b => res (image (argX X) n) (tb W) (tb C) (cluster R) (channel R) (pix a b)) h v := by
  have hz : val_main_call5_v0 (F := Ideal) (Shape.Idx.first h_S_) = 0 := by
    pointwise [val_main_call5_v0, val_main_c]
    show (((0#32 : BitVec 32).toInt : ℝ) : EReal) = 0
    simp
  have hi : integ (fun a b => res (image (argX X) n) (tb W) (tb C) (cluster R) (channel R) (pix a b)) = fun a b => val_main_v40 (F := Ideal) X W C (ix4 n R a b) := by
    funext a b
    simp only [integ, v40_at, v39_at, v38_at]
  unfold padded val_main_v41
  rw [hi]
  split
  next hv =>
    refine pad_apply_of_inside _ _ _ _ _ _ _ _ _ fun a => ?_
    fin_cases a <;> simp [ix4] <;> omega
  next hv =>
    by_cases hh : 1 ≤ h.val
    · refine (pad_apply_of_not_inside _ _ _ _ _ _ _ _ (3 : Fin 4) ?_).trans hz
      simp [ix4]; omega
    · refine (pad_apply_of_not_inside _ _ _ _ _ _ _ _ (2 : Fin 4) ?_).trans hz
      simp [ix4]; omega

/-! ## The global descriptor -/

/-- The global descriptors, each cluster's row normalised. -/
theorem v31_at (n : Fin 4) (k : Fin 64) (j : Fin 128) :
    val_main_v31 (F := Ideal) X W C (ix3 n k j) = unit (gR (image (argX X) n) (tb W) (tb C) k) j := by
  simp only [unit, nrm, ← v26_at]
  pointwise [val_main_v31, val_main_v30, val_main_v29, val_main_v28, val_main_v27, val_main_cst_4, val_main_call1_v2, val_main_call1_v1, val_main_call1_v0, val_main_call1_cst]
  rfl

/-- The same by row. -/
theorem v32_at (n : Fin 4) (R : Fin 8192) :
    val_main_v32 (F := Ideal) X W C (ix2 n R) = unit (gR (image (argX X) n) (tb W) (tb C) (cluster R)) (channel R) := by
  rw [← v31_at]
  pointwise [val_main_v32]
  rfl

/-- The reference's global descriptor. -/
theorem v63_at (n : Fin 4) (R : Fin 8192) :
    val_main_v63 (F := Ideal) X W C (ix3 n 0 R) = unit2 (gR (image (argX X) n) (tb W) (tb C)) (cluster R) (channel R) := by
  rw [unit2, total, ← sum_rows fun k j => unit (gR (image (argX X) n) (tb W) (tb C) k) j * unit (gR (image (argX X) n) (tb W) (tb C) k) j]
  simp only [← v32_at]
  pointwise [val_main_v63, val_main_v37, val_main_v36, val_main_v35, val_main_v34, val_main_v33, val_main_cst_5, val_main_call2_v2, val_main_call2_v1, val_main_call2_v0, val_main_call2_cst]
  rfl

/-! ## The local descriptors -/

/-- The four corners' combination, over sixteen. -/
theorem v50_at (n : Fin 4) (R : Fin 8192) (h : Fin 27) (v : Fin 37) :
    val_main_v50 (F := Ideal) X W C (ix4 n R h v) = yR (image (argX X) n) (tb W) (tb C) (cluster R) (channel R) h v := by
  simp only [yR, corners, ← v41_at]
  pointwise [val_main_v50, val_main_v49, val_main_cst_6, val_main_v48, val_main_v47, val_main_v46, val_main_v45, val_main_v44, val_main_v43, val_main_v42]

/-- The same by cluster, channel and window. -/
theorem v51_at (n : Fin 4) (k : Fin 64) (j : Fin 128) (q : Fin 999) :
    val_main_v51 (F := Ideal) X W C (ix4 n k j q) = yR (image (argX X) n) (tb W) (tb C) k j (prow q) (pcol q) := by
  have e := v50_at X W C n ⟨k.val * 128 + j.val, by omega⟩ (prow q) (pcol q)
  rw [cluster_of, channel_of] at e
  rw [← e]
  pointwise [val_main_v51]
  rfl

/-- The local descriptors, each cluster's row normalised. -/
theorem v56_at (n : Fin 4) (k : Fin 64) (j : Fin 128) (q : Fin 999) :
    val_main_v56 (F := Ideal) X W C (ix4 n k j q) = unit (fun j => yR (image (argX X) n) (tb W) (tb C) k j (prow q) (pcol q)) j := by
  simp only [unit, nrm, ← v51_at]
  pointwise [val_main_v56, val_main_v55, val_main_v54, val_main_v53, val_main_v52, val_main_cst_7, val_main_call6_v2, val_main_call6_v1, val_main_call6_v0, val_main_call6_cst]
  rfl

/-- The same by row. -/
theorem v57_at (n : Fin 4) (R : Fin 8192) (q : Fin 999) :
    val_main_v57 (F := Ideal) X W C (ix3 n R q) = unit (fun j => yR (image (argX X) n) (tb W) (tb C) (cluster R) j (prow q) (pcol q)) (channel R) := by
  rw [← v56_at]
  unfold val_main_v57
  generalize val_main_v56 (F := Ideal) X W C = y
  refine shapeCast_apply y shapeCasts_S4x64x128x999_S4x8192x999 _ _ ?_
  rewrite [Shape.rowMajor_val_four, Shape.rowMajor_val_three]
  show ((n.val * 64 + R.val / 128) * 128 + R.val % 128) * 999 + q.val = (n.val * 8192 + R.val) * 999 + q.val
  omega

/-- The floored norm of a window over all rows. -/
theorem v61_at (n : Fin 4) (R : Fin 8192) (q : Fin 999) :
    val_main_v61 (F := Ideal) X W C (ix3 n R q)
      = max (Ideal.sqrt (∑ R', val_main_v57 (F := Ideal) X W C (ix3 n R' q) * val_main_v57 (F := Ideal) X W C (ix3 n R' q))) eps := by
  have h0 := val_main_call7_v0_apply (F := Ideal) X W C
  have h1 := val_main_call7_v1_apply X W C (idx_main_call7_v2 (idx_main_v61 (ix3 n R q)))
  rw [val_main_v61_apply, val_main_v60_apply, val_main_v58_apply, val_main_call7_v2_apply, val_main_v59_apply]
  generalize val_main_call7_v1 (F := Ideal) X W C = z at h1 ⊢
  generalize val_main_call7_v0 (F := Ideal) X W C = u at h0 h1
  generalize val_main_v57 (F := Ideal) X W C = y at h0 ⊢
  have hi : ∀ k, idx_main_call7_v1 (idx_main_call7_v2 (idx_main_v61 (ix3 n R q))) k = ix3 n k q := fun k => by
    funext a; fin_cases a <;> rfl
  rw [h1, Finset.sum_congr rfl fun k _ => (h0 _).trans (congrArg (fun i => y i * y i) (hi k))]
  show max (Ideal.sqrt (Ideal.ofBits .f32 0x00000000#32 + _)) eps = _
  rw [Ideal.ofBits_zero_f32, zero_add]

/-- The reference's local descriptors. -/
theorem v62_at (n : Fin 4) (R : Fin 8192) (q : Fin 999) :
    val_main_v62 (F := Ideal) X W C (ix3 n R q)
      = unit2 (fun k j => yR (image (argX X) n) (tb W) (tb C) k j (prow q) (pcol q)) (cluster R) (channel R) := by
  rw [unit2, total, ← sum_rows fun k j => unit (fun j => yR (image (argX X) n) (tb W) (tb C) k j (prow q) (pcol q)) j
    * unit (fun j => yR (image (argX X) n) (tb W) (tb C) k j (prow q) (pcol q)) j]
  simp only [← v57_at]
  rw [← v61_at X W C n R q, val_main_v62_apply]
  generalize val_main_v61 (F := Ideal) X W C = z
  generalize val_main_v57 (F := Ideal) X W C = y
  rfl

end Cert.ReferenceIdeal.Val

end
-- ==== Proof.Equal.lean ====
/- The equation: what the kernel leaves is what the reference computes, given finite weights. -/
module

public import proofs.«01_k».proof.Defs
public import proofs.«01_k».proof.Proof.KArr
public import proofs.«01_k».proof.Proof.RVal

@[expose] public section

noncomputable section

namespace Cert.Equal

open Cert.Vlad Idealize.ShloMosaic Idealize.ShloMosaic.TcCoe Idealize.SL.Sem Idealize.ShloMosaic.Pointwise
open Cert.KernelIdeal (S4x128x30x40 S64x128 S4x1x8192 S4x8192x999 nD τ sig)

/-- An extended real whose absolute value is below the infinity is real. -/
theorem isR_of_abs_lt {a : EReal} (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  rcases isR_or_isI a with hr | rfl | rfl
  · exact hr
  all_goals simp [Ideal.cmp] at h

variable (m : (ℓ : Loc nD τ sig) → Buf (Elt Ideal) ℓ) (c : Dev nD)

/-- The precondition says that every weight is real. -/
theorem weights_real [Cert.Pre_conv_w_finite.Facts] (h : Cert.Pre_KernelIdeal_conv_w_finite m) (k : Fin 64) (j : Fin 128) :
    IsR (Cert.KernelIdeal.Val.argW m c k j) :=
  isR_of_abs_lt (congrFun (h c) (ix2 k j))

variable (X : FVec Ideal S4x128x30x40 .f32) (W C : FVec Ideal S64x128 .f32)
  (hX : X = m ((c : Thread nD τ).loc Cert.KernelIdeal.main_arg0)) (hW : W = m ((c : Thread nD τ).loc Cert.KernelIdeal.main_arg1))
  (hC : C = m ((c : Thread nD τ).loc Cert.KernelIdeal.main_arg2)) (hw : ∀ k j, IsR (Cert.KernelIdeal.Val.argW m c k j))

include hX hW hC hw

/-- The global descriptors agree. -/
theorem global_eq : Cert.ReferenceIdeal.Read.val_main_v63 (F := Ideal) X W C = Cert.KernelIdeal.Val.global m c := by
  subst hX hW hC
  funext i
  have hi : i = ix3 (i 0) 0 (i 2) := by
    funext a; fin_cases a
    exacts [rfl, Fin.ext (by have : (i 1).val < 1 := (i 1).isLt; show (i 1).val = 0; omega), rfl]
  refine (congrArg _ hi).trans ((Cert.ReferenceIdeal.Val.v63_at _ _ _ (i 0) (i 2)).trans ?_)
  exact congrFun (congrFun (unit2_congr fun k => (unit_g hw k).symm) _) _

/-- The local descriptors agree. -/
theorem local_eq : Cert.ReferenceIdeal.Read.val_main_v62 (F := Ideal) X W C = Cert.KernelIdeal.Val.localD m c := by
  subst hX hW hC
  funext i
  have hi : i = ix3 (i 0) (i 1) (i 2) := by
    funext a; fin_cases a <;> rfl
  refine (congrArg _ hi).trans ((Cert.ReferenceIdeal.Val.v62_at _ _ _ (i 0) (i 1) (i 2)).trans ?_)
  exact congrFun (congrFun (unit2_congr fun k => (unit_y hw k _ _).symm) _) _

end Cert.Equal

end
-- ==== Proof.lean ====
/- The certificate: the frames of the three programs and the equation of their results, put together. -/
module

public import proofs.«01_k».proof.Defs
public import proofs.«01_k».proof.Proof.KFrame
public import proofs.«01_k».proof.Proof.Equal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.StableHlo Idealize.SL.Sem

attribute [local instance] Cert.Kernel.Gen.facts Cert.KernelIdeal.Gen.facts Cert.ReferenceIdeal.Gen.facts

/-- The printed kernel runs and leaves its arguments and semaphores as they were. -/
theorem kernel_frame : Cert.quiescent_Kernel := fun m ρ _ => Cert.Kernel.Body.frame_bits m ρ

/-- So does its reading over the extended reals. -/
theorem ideal_frame : Cert.quiescent_KernelIdeal := fun m ρ _ => Cert.KernelIdeal.Body.frame_any m ρ

/-- The reference runs on the host, leaves its arguments and has no semaphore to move. -/
theorem reference_frame : Cert.quiescent_ReferenceIdeal := fun m ρ _ =>
  (θ_run _ _ _).mono (fun _ h => ⟨fun c => (h c).2.2, funext fun s => nomatch s⟩) (Cert.ReferenceIdeal.Value.run m ρ)

/-- The precondition's one shape relation. -/
theorem pre_facts : Cert.Pre_conv_w_finite.Facts := ⟨by decide⟩

attribute [local instance] pre_facts

/-- The kernel over the extended reals leaves the two arrays of descriptors, and its arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = Cert.KernelIdeal.Val.global m c
      ∧ r.2.mem ((c.tc : Thread Cert.KernelIdeal.nD Cert.KernelIdeal.τ).loc Cert.KernelIdeal.main_v2_1) = Cert.KernelIdeal.Val.localD m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun _ h c => ⟨(h.1.out_eq c 4).trans (Cert.KernelIdeal.Val.final4 m c), (h.1.out_eq c 5).trans (Cert.KernelIdeal.Val.final5 m c), h.2.1 c⟩)
    (θ_run_and (Cert.KernelIdeal.Body.run_main m g) (Cert.KernelIdeal.Body.frame_any m g))

/-- The reference leaves its last two stages, and its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v63)
        = Cert.ReferenceIdeal.Read.val_main_v63 (F := Ideal) (launchContents m c (Proc.devRef .tc Cert.ReferenceIdeal.main_arg0)) (launchContents m c (Proc.devRef .tc Cert.ReferenceIdeal.main_arg1)) (launchContents m c (Proc.devRef .tc Cert.ReferenceIdeal.main_arg2))
      ∧ r.2.mem ((c.tc : Thread Cert.ReferenceIdeal.nD Cert.ReferenceIdeal.τ).loc Cert.ReferenceIdeal.main_v62)
        = Cert.ReferenceIdeal.Read.val_main_v62 (F := Ideal) (launchContents m c (Proc.devRef .tc Cert.ReferenceIdeal.main_arg0)) (launchContents m c (Proc.devRef .tc Cert.ReferenceIdeal.main_arg1)) (launchContents m c (Proc.devRef .tc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run _ _ _).mono (fun r h c => ?_) (Cert.ReferenceIdeal.Value.run m g)
  have hc := h c
  rw [Cert.ReferenceIdeal.Read.val_main_v63_eq, Cert.ReferenceIdeal.Read.val_main_v62_eq] at hc
  exact hc

/-- With finite weights the kernel and the reference, read over the extended reals, leave the same two results. -/
theorem algebraic : Cert.algebraic_KernelIdeal_ReferenceIdeal_pre_conv_w_finite := fun m g m' g' hpre hag => by
  refine ⟨fun c => Cert.KernelIdeal.Val.global m c, fun c => Cert.KernelIdeal.Val.localD m c, kernel_run m g, ?_⟩
  refine (θ_run _ _ _).mono (fun r h c => ?_) (reference_run m' g')
  obtain ⟨h63, h62, hargs⟩ := h c
  have e63 := Cert.Equal.global_eq m c _ _ _ (hag c).1 (hag c).2.1 (hag c).2.2 (Cert.Equal.weights_real m c hpre)
  have e62 := Cert.Equal.local_eq m c _ _ _ (hag c).1 (hag c).2.1 (hag c).2.2 (Cert.Equal.weights_real m c hpre)
  exact ⟨h63.trans e63, h62.trans e62, hargs⟩

theorem claim : Cert.Claim :=
  ⟨Cert.Kernel.Gen.facts, Cert.KernelIdeal.Gen.facts, Cert.ReferenceIdeal.Gen.facts, pre_facts,
    kernel_frame, ideal_frame, fun m ρ _ => ideal_frame m ρ trivial, reference_frame, fun m ρ _ => reference_frame m ρ trivial,
    trivial, algebraic⟩

end Cert.Proof

end
